-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S16x64x512 : Shape := ⟨3, ![16, 64, 512]⟩
abbrev S16 : Shape := ⟨1, ![16]⟩
abbrev S_ : Shape := ⟨0, ![]⟩
abbrev S64x512 : Shape := ⟨2, ![64, 512]⟩
abbrev S1x64x512 : Shape := ⟨3, ![1, 64, 512]⟩
abbrev S1 : Shape := ⟨1, ![1]⟩
abbrev S2048x512 : Shape := ⟨2, ![2048, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S4096x512, .bf16⟩
  | .local _ .vmem, ⟨0, _⟩ => ⟨S2048x1024, .bf16⟩
  | .local _ .vmem, ⟨1, _⟩ => ⟨S4096x512, .bf16⟩
  | .local _ .vmem, ⟨2, _⟩ => ⟨S16x64x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v15 : BitVec 32 := Scalar.muli v2 c2_i32_7
  let v16 : BitVec 32 := Scalar.addi c0_i32 v15
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_8 : BitVec 32 := 1#32
  let v17 : BitVec 32 := Scalar.muli v7 c1_i32_8
  let v18 : BitVec 32 := Scalar.addi v16 v17
  v18.toNat
def k0_dev2 (d0 : Dev nD) : Nat :=
  let c0_i32_11 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_10 : BitVec 32 := 2#32
  let v19 : BitVec 32 := Scalar.muli v6 c2_i32_10
  let v20 : BitVec 32 := Scalar.addi c0_i32_11 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v21 : BitVec 32 := Scalar.muli v5 c1_i32_12
  let v22 : BitVec 32 := Scalar.addi v20 v21
  v22.toNat
def k0_off1 (d0 : Dev nD) (c0_i32_15 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_14 : BitVec 32 := 1024#32
  let v23 : BitVec 32 := Scalar.muli v2 c1024_i32_14
  let v24 : BitVec 32 := Scalar.addi v23 c0_i32_15
  let v26 : Index := Scalar.indexCast v24
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32 : BitVec 32 := 512#32
  let v25 : BitVec 32 := Scalar.muli v7 c512_i32
  let v27 : Index := Scalar.indexCast v25
  ![v26.toNat, v27.toNat]
def k0_off2 (d0 : Dev nD) (c0_i32_20 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_18 : BitVec 32 := 2048#32
  let v33 : BitVec 32 := Scalar.muli v5 c2048_i32_18
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_19 : BitVec 32 := 1024#32
  let v34 : BitVec 32 := Scalar.muli v2 c1024_i32_19
  let v35 : BitVec 32 := Scalar.addi v33 v34
  let v36 : BitVec 32 := Scalar.addi v35 c0_i32_20
  let c0_i32_27 : BitVec 32 := 0#32
  ![v36.toNat, 0]
def k0_dev3 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v37 : BitVec 32 := Scalar.muli v2 c2_i32_24
  let v38 : BitVec 32 := Scalar.addi c0_i32_25 v37
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_26 : BitVec 32 := 1#32
  let v39 : BitVec 32 := Scalar.muli v7 c1_i32_26
  let v40 : BitVec 32 := Scalar.addi v38 v39
  v40.toNat
def k0_dev4 (d0 : Dev nD) : Nat :=
  let c0_i32_42 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_41 : BitVec 32 := 2#32
  let v63 : BitVec 32 := Scalar.muli v2 c2_i32_41
  let v64 : BitVec 32 := Scalar.addi c0_i32_42 v63
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_43 : BitVec 32 := 1#32
  let v65 : BitVec 32 := Scalar.muli v7 c1_i32_43
  let v66 : BitVec 32 := Scalar.addi v64 v65
  v66.toNat
def k0_dev5 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v89 : BitVec 32 := Scalar.muli v2 c2_i32_58
  let v90 : BitVec 32 := Scalar.addi c0_i32_59 v89
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_60 : BitVec 32 := 1#32
  let v91 : BitVec 32 := Scalar.muli v7 c1_i32_60
  let v92 : BitVec 32 := Scalar.addi v90 v91
  v92.toNat
def k0_dev6 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v115 : BitVec 32 := Scalar.muli v2 c2_i32_74
  let v116 : BitVec 32 := Scalar.addi c0_i32_75 v115
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_76 : BitVec 32 := 1#32
  let v117 : BitVec 32 := Scalar.muli v7 c1_i32_76
  let v118 : BitVec 32 := Scalar.addi v116 v117
  v118.toNat
def k0_dev7 (d0 : Dev nD) : Nat :=
  let c0_i32_91 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_90 : BitVec 32 := 2#32
  let v141 : BitVec 32 := Scalar.muli v2 c2_i32_90
  let v142 : BitVec 32 := Scalar.addi c0_i32_91 v141
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_92 : BitVec 32 := 1#32
  let v143 : BitVec 32 := Scalar.muli v7 c1_i32_92
  let v144 : BitVec 32 := Scalar.addi v142 v143
  v144.toNat
def k0_dev8 (d0 : Dev nD) : Nat :=
  let c0_i32_107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_106 : BitVec 32 := 2#32
  let v167 : BitVec 32 := Scalar.muli v2 c2_i32_106
  let v168 : BitVec 32 := Scalar.addi c0_i32_107 v167
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_108 : BitVec 32 := 1#32
  let v169 : BitVec 32 := Scalar.muli v7 c1_i32_108
  let v170 : BitVec 32 := Scalar.addi v168 v169
  v170.toNat
def k0_dev9 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v193 : BitVec 32 := Scalar.muli v2 c2_i32_122
  let v194 : BitVec 32 := Scalar.addi c0_i32_123 v193
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_124 : BitVec 32 := 1#32
  let v195 : BitVec 32 := Scalar.muli v7 c1_i32_124
  let v196 : BitVec 32 := Scalar.addi v194 v195
  v196.toNat
def k0_dev10 (d0 : Dev nD) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v219 : BitVec 32 := Scalar.muli v2 c2_i32_138
  let v220 : BitVec 32 := Scalar.addi c0_i32_139 v219
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_140 : BitVec 32 := 1#32
  let v221 : BitVec 32 := Scalar.muli v7 c1_i32_140
  let v222 : BitVec 32 := Scalar.addi v220 v221
  v222.toNat
def k0_dev11 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_155 : BitVec 32 := 2#32
  let v245 : BitVec 32 := Scalar.muli v2 c2_i32_155
  let v246 : BitVec 32 := Scalar.addi c0_i32_156 v245
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_157 : BitVec 32 := 1#32
  let v247 : BitVec 32 := Scalar.muli v7 c1_i32_157
  let v248 : BitVec 32 := Scalar.addi v246 v247
  v248.toNat
def k0_dev12 (d0 : Dev nD) : Nat :=
  let c0_i32_172 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_171 : BitVec 32 := 2#32
  let v271 : BitVec 32 := Scalar.muli v2 c2_i32_171
  let v272 : BitVec 32 := Scalar.addi c0_i32_172 v271
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_173 : BitVec 32 := 1#32
  let v273 : BitVec 32 := Scalar.muli v7 c1_i32_173
  let v274 : BitVec 32 := Scalar.addi v272 v273
  v274.toNat
def k0_dev13 (d0 : Dev nD) : Nat :=
  let c0_i32_188 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_187 : BitVec 32 := 2#32
  let v297 : BitVec 32 := Scalar.muli v2 c2_i32_187
  let v298 : BitVec 32 := Scalar.addi c0_i32_188 v297
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_189 : BitVec 32 := 1#32
  let v299 : BitVec 32 := Scalar.muli v7 c1_i32_189
  let v300 : BitVec 32 := Scalar.addi v298 v299
  v300.toNat
def k0_dev14 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v323 : BitVec 32 := Scalar.muli v2 c2_i32_203
  let v324 : BitVec 32 := Scalar.addi c0_i32_204 v323
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_205 : BitVec 32 := 1#32
  let v325 : BitVec 32 := Scalar.muli v7 c1_i32_205
  let v326 : BitVec 32 := Scalar.addi v324 v325
  v326.toNat
def k0_dev15 (d0 : Dev nD) : Nat :=
  let c0_i32_220 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_219 : BitVec 32 := 2#32
  let v349 : BitVec 32 := Scalar.muli v2 c2_i32_219
  let v350 : BitVec 32 := Scalar.addi c0_i32_220 v349
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_221 : BitVec 32 := 1#32
  let v351 : BitVec 32 := Scalar.muli v7 c1_i32_221
  let v352 : BitVec 32 := Scalar.addi v350 v351
  v352.toNat
def k0_dev16 (d0 : Dev nD) : Nat :=
  let c0_i32_236 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_235 : BitVec 32 := 2#32
  let v375 : BitVec 32 := Scalar.muli v2 c2_i32_235
  let v376 : BitVec 32 := Scalar.addi c0_i32_236 v375
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_237 : BitVec 32 := 1#32
  let v377 : BitVec 32 := Scalar.muli v7 c1_i32_237
  let v378 : BitVec 32 := Scalar.addi v376 v377
  v378.toNat
def k0_dev17 (d0 : Dev nD) : Nat :=
  let c0_i32_252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_251 : BitVec 32 := 2#32
  let v401 : BitVec 32 := Scalar.muli v2 c2_i32_251
  let v402 : BitVec 32 := Scalar.addi c0_i32_252 v401
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_253 : BitVec 32 := 1#32
  let v403 : BitVec 32 := Scalar.muli v7 c1_i32_253
  let v404 : BitVec 32 := Scalar.addi v402 v403
  v404.toNat
def k0_dev18 (d0 : Dev nD) : Nat :=
  let c0_i32_268 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_267 : BitVec 32 := 2#32
  let v427 : BitVec 32 := Scalar.muli v2 c2_i32_267
  let v428 : BitVec 32 := Scalar.addi c0_i32_268 v427
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_269 : BitVec 32 := 1#32
  let v429 : BitVec 32 := Scalar.muli v7 c1_i32_269
  let v430 : BitVec 32 := Scalar.addi v428 v429
  v430.toNat
def k0_off3 (d0 : Dev nD) : Fin 2 → Nat :=
  let c0_275 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_274 : BitVec 32 := 512#32
  let v439 : BitVec 32 := Scalar.muli v5 c512_i32_274
  let v440 : Index := Scalar.indexCast v439
  ![0, v440.toNat]
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_276 : BitVec 32 := 2048#32
  let v443 : BitVec 32 := Scalar.muli v5 c2048_i32_276
  let v444 : Index := Scalar.indexCast v443
  let c0_277 : Index := 0#32
  ![v444.toNat, 0]
def k0_off5 (d0 : Dev nD) (c0_i32_30 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c2048_i32 : BitVec 32 := 2048#32
  let v8 : BitVec 32 := Scalar.muli v7 c2048_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v9 : BitVec 32 := Scalar.muli v2 c1024_i32
  let v10 : BitVec 32 := Scalar.addi v8 v9
  let v48 : BitVec 32 := Scalar.addi v10 c0_i32_30
  let c0_i32_284 : BitVec 32 := 0#32
  ![v48.toNat, 0]
def k0_dev19 (d0 : Dev nD) : Nat :=
  let c0_i32_292 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_291 : BitVec 32 := 2#32
  let v457 : BitVec 32 := Scalar.muli v6 c2_i32_291
  let v458 : BitVec 32 := Scalar.addi c0_i32_292 v457
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_293 : BitVec 32 := 1#32
  let v459 : BitVec 32 := Scalar.muli v5 c1_i32_293
  let v460 : BitVec 32 := Scalar.addi v458 v459
  v460.toNat
def k0_dev20 (d0 : Dev nD) : Nat :=
  let c0_i32_311 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_310 : BitVec 32 := 2#32
  let v479 : BitVec 32 := Scalar.muli v6 c2_i32_310
  let v480 : BitVec 32 := Scalar.addi c0_i32_311 v479
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_312 : BitVec 32 := 1#32
  let v481 : BitVec 32 := Scalar.muli v5 c1_i32_312
  let v482 : BitVec 32 := Scalar.addi v480 v481
  v482.toNat
def k0_dev21 (d0 : Dev nD) : Nat :=
  let c0_i32_330 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_329 : BitVec 32 := 2#32
  let v501 : BitVec 32 := Scalar.muli v6 c2_i32_329
  let v502 : BitVec 32 := Scalar.addi c0_i32_330 v501
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_331 : BitVec 32 := 1#32
  let v503 : BitVec 32 := Scalar.muli v5 c1_i32_331
  let v504 : BitVec 32 := Scalar.addi v502 v503
  v504.toNat
def k0_dev22 (d0 : Dev nD) : Nat :=
  let c0_i32_349 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_348 : BitVec 32 := 2#32
  let v523 : BitVec 32 := Scalar.muli v6 c2_i32_348
  let v524 : BitVec 32 := Scalar.addi c0_i32_349 v523
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_350 : BitVec 32 := 1#32
  let v525 : BitVec 32 := Scalar.muli v5 c1_i32_350
  let v526 : BitVec 32 := Scalar.addi v524 v525
  v526.toNat
def k0_dev23 (d0 : Dev nD) : Nat :=
  let c0_i32_368 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_367 : BitVec 32 := 2#32
  let v545 : BitVec 32 := Scalar.muli v6 c2_i32_367
  let v546 : BitVec 32 := Scalar.addi c0_i32_368 v545
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_369 : BitVec 32 := 1#32
  let v547 : BitVec 32 := Scalar.muli v5 c1_i32_369
  let v548 : BitVec 32 := Scalar.addi v546 v547
  v548.toNat
def k0_dev24 (d0 : Dev nD) : Nat :=
  let c0_i32_387 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_386 : BitVec 32 := 2#32
  let v567 : BitVec 32 := Scalar.muli v6 c2_i32_386
  let v568 : BitVec 32 := Scalar.addi c0_i32_387 v567
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_388 : BitVec 32 := 1#32
  let v569 : BitVec 32 := Scalar.muli v5 c1_i32_388
  let v570 : BitVec 32 := Scalar.addi v568 v569
  v570.toNat
def k0_dev25 (d0 : Dev nD) : Nat :=
  let c0_i32_406 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_405 : BitVec 32 := 2#32
  let v589 : BitVec 32 := Scalar.muli v6 c2_i32_405
  let v590 : BitVec 32 := Scalar.addi c0_i32_406 v589
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_407 : BitVec 32 := 1#32
  let v591 : BitVec 32 := Scalar.muli v5 c1_i32_407
  let v592 : BitVec 32 := Scalar.addi v590 v591
  v592.toNat
def k0_dev26 (d0 : Dev nD) : Nat :=
  let c0_i32_425 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_424 : BitVec 32 := 2#32
  let v611 : BitVec 32 := Scalar.muli v6 c2_i32_424
  let v612 : BitVec 32 := Scalar.addi c0_i32_425 v611
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_426 : BitVec 32 := 1#32
  let v613 : BitVec 32 := Scalar.muli v5 c1_i32_426
  let v614 : BitVec 32 := Scalar.addi v612 v613
  v614.toNat
def k0_dev27 (d0 : Dev nD) : Nat :=
  let c0_i32_444 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_443 : BitVec 32 := 2#32
  let v633 : BitVec 32 := Scalar.muli v6 c2_i32_443
  let v634 : BitVec 32 := Scalar.addi c0_i32_444 v633
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_445 : BitVec 32 := 1#32
  let v635 : BitVec 32 := Scalar.muli v5 c1_i32_445
  let v636 : BitVec 32 := Scalar.addi v634 v635
  v636.toNat
def k0_dev28 (d0 : Dev nD) : Nat :=
  let c0_i32_463 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_462 : BitVec 32 := 2#32
  let v655 : BitVec 32 := Scalar.muli v6 c2_i32_462
  let v656 : BitVec 32 := Scalar.addi c0_i32_463 v655
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_464 : BitVec 32 := 1#32
  let v657 : BitVec 32 := Scalar.muli v5 c1_i32_464
  let v658 : BitVec 32 := Scalar.addi v656 v657
  v658.toNat
def k0_dev29 (d0 : Dev nD) : Nat :=
  let c0_i32_482 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_481 : BitVec 32 := 2#32
  let v677 : BitVec 32 := Scalar.muli v6 c2_i32_481
  let v678 : BitVec 32 := Scalar.addi c0_i32_482 v677
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_483 : BitVec 32 := 1#32
  let v679 : BitVec 32 := Scalar.muli v5 c1_i32_483
  let v680 : BitVec 32 := Scalar.addi v678 v679
  v680.toNat
def k0_dev30 (d0 : Dev nD) : Nat :=
  let c0_i32_501 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_500 : BitVec 32 := 2#32
  let v699 : BitVec 32 := Scalar.muli v6 c2_i32_500
  let v700 : BitVec 32 := Scalar.addi c0_i32_501 v699
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_502 : BitVec 32 := 1#32
  let v701 : BitVec 32 := Scalar.muli v5 c1_i32_502
  let v702 : BitVec 32 := Scalar.addi v700 v701
  v702.toNat
def k0_dev31 (d0 : Dev nD) : Nat :=
  let c0_i32_520 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_519 : BitVec 32 := 2#32
  let v721 : BitVec 32 := Scalar.muli v6 c2_i32_519
  let v722 : BitVec 32 := Scalar.addi c0_i32_520 v721
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_521 : BitVec 32 := 1#32
  let v723 : BitVec 32 := Scalar.muli v5 c1_i32_521
  let v724 : BitVec 32 := Scalar.addi v722 v723
  v724.toNat
def k0_dev32 (d0 : Dev nD) : Nat :=
  let c0_i32_539 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_538 : BitVec 32 := 2#32
  let v743 : BitVec 32 := Scalar.muli v6 c2_i32_538
  let v744 : BitVec 32 := Scalar.addi c0_i32_539 v743
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_540 : BitVec 32 := 1#32
  let v745 : BitVec 32 := Scalar.muli v5 c1_i32_540
  let v746 : BitVec 32 := Scalar.addi v744 v745
  v746.toNat
def k0_dev33 (d0 : Dev nD) : Nat :=
  let c0_i32_558 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_557 : BitVec 32 := 2#32
  let v765 : BitVec 32 := Scalar.muli v6 c2_i32_557
  let v766 : BitVec 32 := Scalar.addi c0_i32_558 v765
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_559 : BitVec 32 := 1#32
  let v767 : BitVec 32 := Scalar.muli v5 c1_i32_559
  let v768 : BitVec 32 := Scalar.addi v766 v767
  v768.toNat
def k0_dev34 (d0 : Dev nD) : Nat :=
  let c0_i32_577 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_576 : BitVec 32 := 2#32
  let v787 : BitVec 32 := Scalar.muli v6 c2_i32_576
  let v788 : BitVec 32 := Scalar.addi c0_i32_577 v787
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_578 : BitVec 32 := 1#32
  let v789 : BitVec 32 := Scalar.muli v5 c1_i32_578
  let v790 : BitVec 32 := Scalar.addi v788 v789
  v790.toNat
def k0_off6 (d0 : Dev nD) (c0_i32_296 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c2048_i32_4 : BitVec 32 := 2048#32
  let v11 : BitVec 32 := Scalar.muli v7 c2048_i32_4
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_5 : BitVec 32 := 1024#32
  let v12 : BitVec 32 := Scalar.muli v6 c1024_i32_5
  let v13 : BitVec 32 := Scalar.addi v11 v12
  let v467 : BitVec 32 := Scalar.addi v13 c0_i32_296
  let c0_i32_588 : BitVec 32 := 0#32
  ![v467.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/- The kernel body in the form the proof reads: each of its steps written once, for a chunk `k` of the sixteen,
   and the body as the steps one after another. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

set_option maxRecDepth 65536

noncomputable section

namespace Cert.KernelIdeal.Proof

open Idealize.ShloMosaic Idealize.SL Idealize.SL.Sem Cert.KernelIdeal Cert.KernelIdeal.Gen

variable {F : FTy → Type} [FloatOps F]

/-- The device in the other column of the mesh, in the same row (the mesh axis `y` flipped). -/
def yp (d : Dev nD) : Dev nD := ⟨k0_dev1 d, k0_dev1_lt d⟩

/-- The device in the other row of the mesh, in the same column (the mesh axis `x` flipped). -/
def xp (d : Dev nD) : Dev nD := ⟨k0_dev2 d, k0_dev2_lt d⟩

/-- The row offset `64 k` of chunk `k` as the word the program computes it from. -/
abbrev row (k : Fin 16) : BitVec 32 := BitVec.ofNat 32 (64 * k.val)

/-! ## Where the steps access -/

theorem sem_inb : ∀ k : Fin 16, ∀ a, (![k.val] : Fin 1 → Nat) a + S1.size a ≤ S16.size a := by decide

theorem slot_inb : ∀ k : Fin 16, ∀ a,
    (![k.val, 0, 0] : Fin 3 → Nat) a + S1x64x512.size a ≤ S16x64x512.size a := by decide

/-- Slot `k` of the sending scratch, as a rectangle of it. -/
abbrev slotRect (k : Fin 16) : Rect S16x64x512 :=
  Rect.unit (s := S16x64x512) ![k.val, 0, 0] S1x64x512.size (slot_inb k)

theorem slot_words : ∀ k : Fin 16, (slotRect k).WholeWords (EltTy.packing .bf16) := by decide +kernel

theorem slot_packed : ∀ k : Fin 16, (slotRect k).PackedRows (EltTy.packing .bf16) := by decide +kernel

/-- The buffer the program's operand is staged in. -/
abbrev xBuf : Memref sig .tc .vmem S2048x1024 .bf16 := Memref.whole cc0_stg0_0
/-- The buffer the program's result is staged in. -/
abbrev oBuf : Memref sig .tc .vmem S4096x512 .bf16 := Memref.whole cc0_stg1_0
/-- The scratch the chunks are sent from. -/
abbrev sBuf : Memref sig .tc .vmem S16x64x512 .bf16 := Memref.whole cc0_scratch0

/-- The rows of the operand that hold chunk `k` of what this device sends. -/
abbrev xRect (d : Dev nD) (k : Fin 16) : Rect S2048x1024 :=
  Rect.unit (s := S2048x1024) (k0_off1 d (row k)) S64x512.size (k0_off1_inb d k)
/-- The rows of the neighbour's result that chunk `k` is sent to. -/
abbrev toRect (d : Dev nD) (k : Fin 16) : Rect S4096x512 :=
  Rect.unit (s := S4096x512) (k0_off2 d (row k)) S64x512.size (k0_off2_inb d k)
/-- The half of the operand that stays on this device. -/
abbrev xHalf (d : Dev nD) : Rect S2048x1024 :=
  Rect.unit (s := S2048x1024) (k0_off3 d) S2048x512.size (k0_off3_inb d)
/-- The half of the result that comes from this device's own operand. -/
abbrev oHalf (d : Dev nD) : Rect S4096x512 :=
  Rect.unit (s := S4096x512) (k0_off4 d) S2048x512.size (k0_off4_inb d)
/-- The rows of the result that receive chunk `k` from the `y` neighbour. -/
abbrev mineRect (d : Dev nD) (k : Fin 16) : Rect S4096x512 :=
  Rect.unit (s := S4096x512) (k0_off5 d (row k)) S64x512.size (k0_off5_inb d k)
/-- The rows of the result that receive chunk `k` from the `x` neighbour. -/
abbrev theirRect (d : Dev nD) (k : Fin 16) : Rect S4096x512 :=
  Rect.unit (s := S4096x512) (k0_off6 d (row k)) S64x512.size (k0_off6_inb d k)

abbrev slot (k : Fin 16) : Memref sig .tc .vmem S64x512 .bf16 :=
  (sBuf.slice (slotRect k) (fun _ => rfl)).squeeze S64x512 squeezes_S1x64x512_S64x512
abbrev toView (d : Dev nD) (k : Fin 16) : Memref sig .tc .vmem S64x512 .bf16 :=
  oBuf.slice (toRect d k) (fun _ => rfl)
abbrev mineView (d : Dev nD) (k : Fin 16) : Memref sig .tc .vmem S64x512 .bf16 :=
  oBuf.slice (mineRect d k) (fun _ => rfl)
abbrev theirView (d : Dev nD) (k : Fin 16) : Memref sig .tc .vmem S64x512 .bf16 :=
  oBuf.slice (theirRect d k) (fun _ => rfl)

theorem slot_exact (k : Fin 16) : (slot k).view.WordExact :=
  ((Memref.isWhole_whole cc0_scratch0).wordExact_slice rfl _ (slot_words k)).reshape _ _
theorem toView_exact (d : Dev nD) (k : Fin 16) : (toView d k).view.WordExact :=
  (Memref.isWhole_whole cc0_stg1_0).wordExact_slice rfl _ (k0_off2_wordsbf16 d k)
theorem mineView_exact (d : Dev nD) (k : Fin 16) : (mineView d k).view.WordExact :=
  (Memref.isWhole_whole cc0_stg1_0).wordExact_slice rfl _ (k0_off5_wordsbf16 d k)
theorem theirView_exact (d : Dev nD) (k : Fin 16) : (theirView d k).view.WordExact :=
  (Memref.isWhole_whole cc0_stg1_0).wordExact_slice rfl _ (k0_off6_wordsbf16 d k)

/-- Semaphore `k` of an array of sixteen. -/
abbrev semAt (A : DmaSems sig S16) (k : Fin 16) : DmaSem sig :=
  ((A.slice (Rect.unit (s := S16) ![k.val] S1.size (sem_inb k))).squeeze S_ squeezes_S1_S_).sem

abbrev snd1 (k : Fin 16) : DmaSem sig := semAt cc0_scratch1 k
abbrev rcv1 (k : Fin 16) : DmaSem sig := semAt cc0_scratch2 k
abbrev snd2 (k : Fin 16) : DmaSem sig := semAt cc0_scratch3 k
abbrev rcv2 (k : Fin 16) : DmaSem sig := semAt cc0_scratch4 k

/-- The barrier's semaphore. -/
abbrev bar : Sem sig := (SemArray.scalar (sig.barrier 0 rfl) : Sems sig S_).sem

/-! ## The steps -/

abbrev Body (F : FTy → Type) [FloatOps F] := Prog (TpuEff nD τ sig (Elt F) Λ₀ .tc) PUnit

/-- Tell both neighbours that this device has entered, and wait until both have told it. -/
def enter (d : Dev nD) : Body F := do
  semSignalWord (yp d) bar 1#32
  semSignalWord (xp d) bar 1#32
  semWaitWord bar 2#32

/-- Stage chunk `k` of the operand and start sending it to the `y` neighbour. -/
def send1 (d : Dev nD) (k : Fin 16) : Body F := do
  let v ← Prog.lift (.load xBuf (xRect d k).toLoadRect (View.loadsAt_vmem h_S64x512))
  let _ ← Prog.lift (.load sBuf (slotRect k).toLoadRect (View.loadsAt_vmem h_S1x64x512))
  Prog.lift (.store sBuf (slotRect k) (k0_pay3 (F := F) v) Finset.univ (View.stores_vmem h_S1x64x512
    ((Memref.isWhole_whole cc0_scratch0).storeExact_slice rfl _ (slot_packed k)) (fun _ => rfl)) (.inl rfl))
  Prog.lift (.enqueueDma (slot k) (.remote (Dev.tc (yp d)) (toView d k) (.dma (snd1 k))) (.dma (rcv1 k))
    (slot_exact k) (toView_exact d k) ⟨⟨rfl, Or.inl rfl⟩, trivial⟩)

/-- Copy the half of the operand that stays into the result. -/
def keep (d : Dev nD) : Body F := do
  let v ← Prog.lift (.load xBuf (xHalf d).toLoadRect (View.loadsAt_vmem h_S2048x512))
  let _ ← Prog.lift (.load oBuf (oHalf d).toLoadRect (View.loadsAt_vmem h_S2048x512))
  Prog.lift (.store oBuf (oHalf d) (k0_pay20 (F := F) v) Finset.univ (View.stores_vmem h_S2048x512
    ((Memref.isWhole_whole cc0_stg1_0).storeExact_slice rfl _ (k0_off4_packedbf16 d)) (fun _ => rfl)) (.inl rfl))

/-- Wait for chunk `k` from the `y` neighbour and forward it to the `x` neighbour. -/
def send2 (d : Dev nD) (k : Fin 16) : Body F := do
  Prog.lift (.waitDma2 (rcv1 k) (slot k) (mineView d k) (slot_exact k) (mineView_exact d k))
  Prog.lift (.enqueueDma (mineView d k) (.remote (Dev.tc (xp d)) (mineView d k) (.dma (snd2 k))) (.dma (rcv2 k))
    (mineView_exact d k) (mineView_exact d k) ⟨⟨rfl, Or.inl rfl⟩, trivial⟩)

/-- Wait for chunk `k` from the `x` neighbour. -/
def recv2 (d : Dev nD) (k : Fin 16) : Body F :=
  Prog.lift (.waitDma2 (rcv2 k) (slot k) (theirView d k) (slot_exact k) (theirView_exact d k))

/-- Wait until both of this device's own copies of chunk `k` have left. -/
def drain (d : Dev nD) (k : Fin 16) : Body F := do
  Prog.lift (.waitDma2 (snd1 k) (toView d k) (slot k) (toView_exact d k) (slot_exact k))
  Prog.lift (.waitDma2 (snd2 k) (mineView d k) (mineView d k) (mineView_exact d k) (mineView_exact d k))

/-- The sixteen chunks in the order the program takes them. -/
def chunks : List (Fin 16) := [0, 1, 2, 3, 4, 5, 6, 7, 8, 9, 10, 11, 12, 13, 14, 15]

/-- A step for every chunk of a list, in its order. -/
def each (f : Fin 16 → Body F) : List (Fin 16) → Body F
  | [] => pure ⟨⟩
  | k :: ks => f k >>= fun _ => each f ks

/-- The body as its steps. -/
def steps : Body F := do
  let d ← Prog.lift .deviceId
  enter d
  each (send1 d) chunks
  keep d
  each (send2 d) chunks
  each (recv2 d) chunks
  each (drain d) chunks

set_option maxHeartbeats 4000000 in
/-- The body the pipeline calls is its steps one after another. -/
theorem body_eq (t : Fin cfg0.N) : bodyAt0 (F := F) t = steps := by
  obtain rfl := fin_N0 t
  rw [bodyAt0, cc0_body_eq_skeleton]
  chain_rfl

end Cert.KernelIdeal.Proof

end
-- ==== Proof.Mesh.lean ====
/- The mesh and the pieces of the buffers: the two neighbours of a device, and the element sets the chunks of the
   result and the slots of the scratch occupy. -/
module

public import proofs.«01_k».proof.Proof.Program

@[expose] public section

set_option maxRecDepth 16384

noncomputable section

namespace Cert.KernelIdeal.Proof

open Idealize.ShloMosaic Idealize.SL Idealize.SL.Sem Cert.KernelIdeal Cert.KernelIdeal.Gen

/-! ## Neighbours -/

theorem yp_val (d : Dev nD) : (yp d).val = (2 * (d.val / 2) + 1) - d.val % 2 := k0_dev1_eq d
theorem xp_val (d : Dev nD) : (xp d).val = (d.val % 2 + 2) - 2 * (d.val / 2) := k0_dev2_eq d

theorem yp_yp : ∀ d : Dev nD, yp (yp d) = d := by decide +kernel
theorem xp_xp : ∀ d : Dev nD, xp (xp d) = d := by decide +kernel
theorem yp_ne_xp : ∀ d : Dev nD, yp d ≠ xp d := by decide +kernel

/-- Flipping `y` as a permutation of the devices. -/
def yFlip : Dev nD ≃ Dev nD := ⟨yp, yp, yp_yp, yp_yp⟩
/-- Flipping `x` as a permutation of the devices. -/
def xFlip : Dev nD ≃ Dev nD := ⟨xp, xp, xp_xp, xp_xp⟩

theorem eq_yp_iff {c d : Dev nD} : c = yp d ↔ d = yp c :=
  ⟨fun h => by rw [h, yp_yp], fun h => by rw [h, yp_yp]⟩
theorem eq_xp_iff {c d : Dev nD} : c = xp d ↔ d = xp c :=
  ⟨fun h => by rw [h, xp_xp], fun h => by rw [h, xp_xp]⟩

/-! ## The chunks of the result -/

theorem to_off : ∀ (d : Dev nD) (k : Fin 16), k0_off2 d (row k) = k0_off5 (yp d) (row k) := by decide +kernel
theorem their_off : ∀ (d : Dev nD) (k : Fin 16), k0_off6 (xp d) (row k) = k0_off5 d (row k) := by decide +kernel

/-- Rectangles of unit stride at equal offsets are the same. -/
theorem unit_congr {s : Shape} {o o' z : Fin s.rank → Nat} (h : o = o') (p : ∀ a, o a + z a ≤ s.size a)
    (p' : ∀ a, o' a + z a ≤ s.size a) : Rect.unit (s := s) o z p = Rect.unit o' z p' := by subst h; rfl

/-- What a device sends in the first phase lands where its neighbour expects it. -/
theorem toRect_eq (d : Dev nD) (k : Fin 16) : toRect d k = mineRect (yp d) k := unit_congr (to_off d k) _ _
/-- What a device forwards lands where its neighbour expects it. -/
theorem theirRect_eq (d : Dev nD) (k : Fin 16) : theirRect (xp d) k = mineRect d k := unit_congr (their_off d k) _ _

/-- The first row of the chunk the `y` neighbour sends. -/
abbrev mineLo (d : Dev nD) (k : Fin 16) : Nat := (1024 * (d.val / 2) + 64 * k.val + 2048) - 2048 * (d.val % 2)

/-- The elements of the result that receive chunk `k` from the `y` neighbour. -/
def mineSet (d : Dev nD) (k : Fin 16) : Finset S4096x512.Idx := (mineRect d k).set
/-- The elements of the result that receive chunk `k` from the `x` neighbour. -/
def theirSet (d : Dev nD) (k : Fin 16) : Finset S4096x512.Idx := (theirRect d k).set
/-- The elements of the result this device computes from its own operand. -/
def halfSet (d : Dev nD) : Finset S4096x512.Idx := (oHalf d).set
/-- The elements of slot `k` of the scratch. -/
def slotSet (k : Fin 16) : Finset S16x64x512.Idx := (slotRect k).set

theorem toView_set (d : Dev nD) (k : Fin 16) : (toView d k).view.set = mineSet (yp d) k := by
  unfold mineSet; rw [← toRect_eq]; exact View.set_slice_whole _ _
theorem mineView_set (d : Dev nD) (k : Fin 16) : (mineView d k).view.set = mineSet d k := View.set_slice_whole _ _
theorem theirSet_xp (d : Dev nD) (k : Fin 16) : theirSet (xp d) k = mineSet d k := by
  unfold theirSet mineSet; rw [theirRect_eq]
theorem theirSet_eq (d : Dev nD) (k : Fin 16) : theirSet d k = mineSet (xp d) k := by
  rw [← theirSet_xp (xp d), xp_xp]
theorem slot_set (k : Fin 16) : (slot k).view.set = slotSet k :=
  (View.set_reshape _ _).trans (View.set_slice_whole _ _)

theorem mem_mineSet (d : Dev nD) (k : Fin 16) (i : S4096x512.Idx) :
    i ∈ mineSet d k ↔ mineLo d k ≤ (i 0).val ∧ (i 0).val < mineLo d k + 64 := by
  unfold mineSet
  rw [Rect.mem_set_unit, k0_off5_eq d k]
  constructor
  · intro h; exact h 0
  · intro h a
    fin_cases a
    · exact h
    · exact ⟨Nat.zero_le _, lt_of_lt_of_eq (i 1).isLt rfl⟩

theorem mem_halfSet (d : Dev nD) (i : S4096x512.Idx) :
    i ∈ halfSet d ↔ 2048 * (d.val % 2) ≤ (i 0).val ∧ (i 0).val < 2048 * (d.val % 2) + 2048 := by
  unfold halfSet
  rw [Rect.mem_set_unit, k0_off4_eq d]
  constructor
  · intro h; exact h 0
  · intro h a
    fin_cases a
    · exact h
    · exact ⟨Nat.zero_le _, lt_of_lt_of_eq (i 1).isLt rfl⟩

theorem mem_slotSet (k : Fin 16) (i : S16x64x512.Idx) : i ∈ slotSet k ↔ (i 0).val = k.val := by
  unfold slotSet
  rw [Rect.mem_set_unit]
  constructor
  · intro h
    have h0 := h 0
    change k.val ≤ (i 0).val ∧ (i 0).val < k.val + 1 at h0
    omega
  · intro h a
    fin_cases a
    · change k.val ≤ (i 0).val ∧ (i 0).val < k.val + 1
      omega
    · exact ⟨Nat.zero_le _, lt_of_lt_of_eq (i 1).isLt rfl⟩
    · exact ⟨Nat.zero_le _, lt_of_lt_of_eq (i 2).isLt rfl⟩

/-! ## The pieces are disjoint and cover -/

theorem row_lt (i : S4096x512.Idx) : (i 0).val < 4096 := (i 0).isLt
theorem col_lt (i : S4096x512.Idx) : (i 1).val < 512 := (i 1).isLt

theorem mineSet_disjoint (d : Dev nD) {k k' : Fin 16} (h : k ≠ k') : Disjoint (mineSet d k) (mineSet d k') := by
  rw [Finset.disjoint_left]
  intro i hi hi'
  rw [mem_mineSet] at hi hi'
  refine h (Fin.ext ?_)
  have : d.val < 4 := d.isLt; have := k.isLt; have := k'.isLt
  unfold mineLo at hi hi'
  omega

theorem theirSet_disjoint (d : Dev nD) {k k' : Fin 16} (h : k ≠ k') : Disjoint (theirSet d k) (theirSet d k') := by
  rw [theirSet_eq, theirSet_eq]; exact mineSet_disjoint _ h

theorem slotSet_disjoint {k k' : Fin 16} (h : k ≠ k') : Disjoint (slotSet k) (slotSet k') := by
  rw [Finset.disjoint_left]
  intro i hi hi'
  rw [mem_slotSet] at hi hi'
  exact h (Fin.ext (hi.symm.trans hi'))

/-- The rows received from the `y` neighbour, all chunks. -/
def mineAll (d : Dev nD) : Finset S4096x512.Idx := Finset.univ.biUnion (mineSet d)
/-- The rows received from the `x` neighbour, all chunks. -/
def theirAll (d : Dev nD) : Finset S4096x512.Idx := Finset.univ.biUnion (theirSet d)

theorem mem_mineAll (d : Dev nD) (i : S4096x512.Idx) : i ∈ mineAll d ↔
    (1024 * (d.val / 2) + 2048) - 2048 * (d.val % 2) ≤ (i 0).val
      ∧ (i 0).val < (1024 * (d.val / 2) + 2048) - 2048 * (d.val % 2) + 1024 := by
  unfold mineAll
  rw [Finset.mem_biUnion]
  have : d.val < 4 := d.isLt
  constructor
  · rintro ⟨k, -, hk⟩
    rw [mem_mineSet] at hk
    have := k.isLt
    unfold mineLo at hk
    omega
  · intro h
    refine ⟨⟨((i 0).val - ((1024 * (d.val / 2) + 2048) - 2048 * (d.val % 2))) / 64, by omega⟩, Finset.mem_univ _, ?_⟩
    rw [mem_mineSet]
    unfold mineLo
    dsimp only
    omega

theorem theirAll_eq (d : Dev nD) : theirAll d = mineAll (xp d) := by
  unfold theirAll mineAll
  exact Finset.biUnion_congr rfl fun k _ => theirSet_eq d k

theorem received_disjoint (d : Dev nD) : Disjoint (mineAll d) (theirAll d) := by
  rw [theirAll_eq, Finset.disjoint_left]
  intro i hi hi'
  rw [mem_mineAll] at hi hi'
  rw [xp_val] at hi'
  have : d.val < 4 := d.isLt
  omega

theorem half_disjoint (d : Dev nD) : Disjoint (halfSet d) (mineAll d ∪ theirAll d) := by
  rw [theirAll_eq, Finset.disjoint_left]
  intro i hi hi'
  rw [Finset.mem_union, mem_mineAll, mem_mineAll, xp_val] at hi'
  rw [mem_halfSet] at hi
  have : d.val < 4 := d.isLt
  rcases Nat.mod_two_eq_zero_or_one d.val with h | h <;> omega

theorem pieces_cover (d : Dev nD) : halfSet d ∪ (mineAll d ∪ theirAll d) = Finset.univ := by
  ext i
  rw [Finset.mem_union, Finset.mem_union, theirAll_eq, mem_mineAll, mem_mineAll, xp_val, mem_halfSet]
  have : d.val < 4 := d.isLt
  have := row_lt i
  simp only [Finset.mem_univ, iff_true]
  omega

theorem slots_cover : Finset.univ.biUnion slotSet = Finset.univ := by
  ext i
  simp only [Finset.mem_biUnion, Finset.mem_univ, true_and, iff_true]
  exact ⟨i 0, (mem_slotSet (i 0) i).mpr rfl⟩

end Cert.KernelIdeal.Proof

end
-- ==== Proof.Contents.lean ====
/- What the result's buffer holds when the body is done, as a function of every device's operand, and that each
   step of the body stores or copies exactly its part of that. -/
module

public import proofs.«01_k».proof.Proof.Mesh
public import Idealize.ShloMosaic.Lib.Pipeline.Value

@[expose] public section

set_option maxRecDepth 16384

noncomputable section

namespace Cert.KernelIdeal.Proof

open Idealize.ShloMosaic Idealize.ShloMosaic.TcCoe Idealize.SL Idealize.SL.Sem Cert.KernelIdeal Cert.KernelIdeal.Gen

variable {F : FTy → Type} [FloatOps F]

/-- The operand of every device, as it is staged. -/
abbrev Operands (F : FTy → Type) : Type := Dev nD → S2048x1024.Idx → Elt F .bf16

/-- The device whose operand holds element `i` of device `d`'s result. -/
def src (d : Dev nD) (i : S4096x512.Idx) : Dev nD :=
  if (i 0).val / 2048 = d.val % 2 then d
  else ⟨2 * ((i 0).val % 2048 / 1024) + (i 0).val / 2048, by
    have := row_lt i; change _ < 4; omega⟩

/-- Where in that operand. -/
def srcIdx (d : Dev nD) (i : S4096x512.Idx) : S2048x1024.Idx := fun
  | 0 => ⟨(i 0).val % 2048, Nat.mod_lt _ (by decide)⟩
  | 1 => ⟨512 * (d.val % 2) + (i 1).val, by
      have := col_lt i; change _ < 1024; omega⟩

/-- The result of device `d`: each element read from the operand it comes from. -/
def out (X : Operands F) (d : Dev nD) : S4096x512.Idx → Elt F .bf16 := fun i => X (src d i) (srcIdx d i)

omit [FloatOps F] in
/-- An element of the result, by the device and the index it is read from. -/
theorem out_at (X : Operands F) {d e : Dev nD} {i : S4096x512.Idx} {p : S2048x1024.Idx}
    (he : (i 0).val / 2048 = d.val % 2 ∧ e = d
      ∨ (i 0).val / 2048 ≠ d.val % 2 ∧ e.val = 2 * ((i 0).val % 2048 / 1024) + (i 0).val / 2048)
    (h0 : (p 0).val = (i 0).val % 2048) (h1 : (p 1).val = 512 * (d.val % 2) + (i 1).val) : out X d i = X e p := by
  have hs : src d i = e := by
    unfold src
    rcases he with ⟨h, rfl⟩ | ⟨h, h'⟩
    · rw [if_pos h]
    · rw [if_neg h]; exact Fin.ext h'.symm
  have hp : srcIdx d i = p := by
    funext a
    fin_cases a
    · exact Fin.ext h0.symm
    · exact Fin.ext h1.symm
  unfold out
  rw [hs, hp]

/-! ## The first phase -/

/-- A unit-stride rectangle's embedding, by its offset in closed form. -/
theorem emb_unit_val {s : Shape} {o o' : Fin s.rank → Nat} (h : o = o') (z : Fin s.rank → Nat)
    (p : ∀ a, o a + z a ≤ s.size a) (j : (Rect.unit (s := s) o z p).shape.Idx) (a : Fin s.rank) :
    (((Rect.unit (s := s) o z p).emb j) a).val = o' a + (j a).val := by
  subst h; rw [Rect.emb_apply]; simp

theorem to_emb_0 (d : Dev nD) (k : Fin 16) (j : S64x512.Idx) : (((toRect d k).emb j) 0).val
    = 2048 * (d.val % 2) + 1024 * (d.val / 2) + 64 * k.val + (j 0).val :=
  emb_unit_val (s := S4096x512) (k0_off2_eq d k) S64x512.size (k0_off2_inb d k) j 0
theorem to_emb_1 (d : Dev nD) (k : Fin 16) (j : S64x512.Idx) : (((toRect d k).emb j) 1).val = (j 1).val :=
  (emb_unit_val (s := S4096x512) (k0_off2_eq d k) S64x512.size (k0_off2_inb d k) j 1).trans (Nat.zero_add _)
theorem x_emb_0 (d : Dev nD) (k : Fin 16) (j : S64x512.Idx) : (((xRect d k).emb j) 0).val
    = 1024 * (d.val / 2) + 64 * k.val + (j 0).val :=
  emb_unit_val (s := S2048x1024) (k0_off1_eq d k) S64x512.size (k0_off1_inb d k) j 0
theorem x_emb_1 (d : Dev nD) (k : Fin 16) (j : S64x512.Idx) : (((xRect d k).emb j) 1).val
    = 512 - 512 * (d.val % 2) + (j 1).val :=
  emb_unit_val (s := S2048x1024) (k0_off1_eq d k) S64x512.size (k0_off1_inb d k) j 1
theorem mine_emb_0 (d : Dev nD) (k : Fin 16) (j : S64x512.Idx) : (((mineRect d k).emb j) 0).val
    = mineLo d k + (j 0).val :=
  emb_unit_val (s := S4096x512) (k0_off5_eq d k) S64x512.size (k0_off5_inb d k) j 0
theorem mine_emb_1 (d : Dev nD) (k : Fin 16) (j : S64x512.Idx) : (((mineRect d k).emb j) 1).val = (j 1).val :=
  (emb_unit_val (s := S4096x512) (k0_off5_eq d k) S64x512.size (k0_off5_inb d k) j 1).trans (Nat.zero_add _)
theorem half_emb_0 (d : Dev nD) (j : S2048x512.Idx) : (((oHalf d).emb j) 0).val = 2048 * (d.val % 2) + (j 0).val :=
  emb_unit_val (s := S4096x512) (k0_off4_eq d) S2048x512.size (k0_off4_inb d) j 0
theorem half_emb_1 (d : Dev nD) (j : S2048x512.Idx) : (((oHalf d).emb j) 1).val = (j 1).val :=
  (emb_unit_val (s := S4096x512) (k0_off4_eq d) S2048x512.size (k0_off4_inb d) j 1).trans (Nat.zero_add _)
theorem xhalf_emb_0 (d : Dev nD) (j : S2048x512.Idx) : (((xHalf d).emb j) 0).val = (j 0).val :=
  (emb_unit_val (s := S2048x1024) (k0_off3_eq d) S2048x512.size (k0_off3_inb d) j 0).trans (Nat.zero_add _)
theorem xhalf_emb_1 (d : Dev nD) (j : S2048x512.Idx) : (((xHalf d).emb j) 1).val = 512 * (d.val % 2) + (j 1).val :=
  emb_unit_val (s := S2048x1024) (k0_off3_eq d) S2048x512.size (k0_off3_inb d) j 1

/-- What a device's chunk `k` holds: the rows of its operand at `xRect`. -/
def chunk (X : Operands F) (d : Dev nD) (k : Fin 16) : S64x512.Idx → Elt F .bf16 := fun j => X d ((xRect d k).emb j)

omit [FloatOps F] in
/-- The neighbour's result, where chunk `k` lands, is chunk `k`. -/
theorem out_to (X : Operands F) (d : Dev nD) (k : Fin 16) (j : S64x512.Idx) :
    out X (yp d) ((toRect d k).emb j) = chunk X d k j := by
  have hj0 : (j 0).val < 64 := (j 0).isLt
  have hj1 : (j 1).val < 512 := (j 1).isLt
  have hd : d.val < 4 := d.isLt
  have hk : k.val < 16 := k.isLt
  unfold chunk
  refine out_at X (.inr ⟨?_, ?_⟩) ?_ ?_
  · rw [to_emb_0, yp_val]; rcases Nat.mod_two_eq_zero_or_one d.val with h | h <;> omega
  · rw [to_emb_0]; rcases Nat.mod_two_eq_zero_or_one d.val with h | h <;> omega
  · rw [to_emb_0, x_emb_0]; rcases Nat.mod_two_eq_zero_or_one d.val with h | h <;> omega
  · rw [to_emb_1, x_emb_1, yp_val]; rcases Nat.mod_two_eq_zero_or_one d.val with h | h <;> omega

omit [FloatOps F] in
/-- Chunk `k` written where it lands leaves the neighbour's result there. -/
theorem landed_to (X : Operands F) (d : Dev nD) (k : Fin 16) (fd : (cc0_stg1_0 : Ref sig .tc).ty.Contents (Elt F))
    (i : S4096x512.Idx) (hi : i ∈ mineSet (yp d) k) :
    (toView d k).view.write (Elt F) fd (chunk X d k) Finset.univ i = out X (yp d) i := by
  rw [← toView_set] at hi
  obtain ⟨j, -, rfl⟩ := Finset.mem_map.mp hi
  refine (View.write_emb_of_mem _ _ (Finset.mem_univ j)).trans ?_
  exact (out_to X d k j).symm

omit [FloatOps F] in
/-- A slot reads as the scratch does through the slot's rectangle, the leading unit axis dropped. -/
theorem slot_read (k : Fin 16) (g : (cc0_scratch0 : Ref sig .tc).ty.Contents (Elt F)) :
    (slot k).view.read (Elt F) g
      = shapeCast S64x512 ((sBuf.access (slotRect k)).read (Elt F) g) squeezes_S1x64x512_S64x512.numel_eq := rfl

/-- A slot of the scratch, after chunk `k` is stored in it through the two reshapes, reads as chunk `k`. -/
theorem staged (k : Fin 16) (f : (cc0_scratch0 : Ref sig .tc).ty.Contents (Elt F)) (v : Vec F S64x512 .bf16) :
    (slot k).view.read (Elt F) ((sBuf.access (slotRect k)).write (Elt F) f (k0_pay3 v) Finset.univ) = v := by
  rw [slot_read, View.read_write_univ, k0_pay3, shapeCast_self]
  exact shapeCast_shapeCast v _ _

/-! ## The second phase -/

omit [FloatOps F] in
/-- The two devices of a column hold the same at a chunk one forwards to the other. -/
theorem out_xp (X : Operands F) (d : Dev nD) (k : Fin 16) (i : S4096x512.Idx) (hi : i ∈ mineSet d k) :
    out X (xp d) i = out X d i := by
  rw [mem_mineSet] at hi
  have hd : d.val < 4 := d.isLt
  have hk : k.val < 16 := k.isLt
  unfold mineLo at hi
  have hn : ¬ (i 0).val / 2048 = d.val % 2 := by
    rcases Nat.mod_two_eq_zero_or_one d.val with h | h <;> omega
  have hx : (xp d).val % 2 = d.val % 2 := by rw [xp_val]; omega
  refine out_at X (.inr ⟨by rw [hx]; exact hn, ?_⟩) rfl (by rw [hx]; rfl)
  unfold src
  rw [if_neg hn]

omit [FloatOps F] in
/-- Chunk `k` forwarded leaves the neighbour's result there. -/
theorem landed_their (X : Operands F) (d : Dev nD) (k : Fin 16)
    (fd : (cc0_stg1_0 : Ref sig .tc).ty.Contents (Elt F)) (i : S4096x512.Idx) (hi : i ∈ theirSet (xp d) k) :
    (mineView d k).view.write (Elt F) fd ((mineView d k).view.read (Elt F) (out X d)) Finset.univ i
      = out X (xp d) i := by
  rw [theirSet_xp] at hi
  rw [out_xp X d k i hi]
  rw [← mineView_set] at hi
  obtain ⟨j, -, rfl⟩ := Finset.mem_map.mp hi
  exact View.write_emb_of_mem _ _ (Finset.mem_univ j)

/-! ## The half that stays -/

/-- The half of the operand stored into the result leaves the result there. -/
theorem kept (X : Operands F) (d : Dev nD) (f : (cc0_stg1_0 : Ref sig .tc).ty.Contents (Elt F))
    (i : S4096x512.Idx) (hi : i ∈ halfSet d) :
    (oBuf.access (oHalf d)).write (Elt F) f
      (k0_pay20 (xBuf.view.readAt (Elt F) (xHalf d).toLoadRect (X d))) Finset.univ i = out X d i := by
  obtain ⟨j, -, rfl⟩ := Finset.mem_map.mp (show i ∈ Finset.univ.map (oHalf d).emb from by
    rw [Rect.map_emb_univ]; exact hi)
  refine (View.write_emb_of_mem _ _ (Finset.mem_univ j)).trans ?_
  have hj0 : (j 0).val < 2048 := (j 0).isLt
  rw [k0_pay20, shapeCast_self]
  refine (out_at X (.inl ⟨?_, rfl⟩) ?_ ?_).symm
  · rw [half_emb_0]; omega
  · rw [half_emb_0]; exact (xhalf_emb_0 d j).trans (by omega)
  · rw [half_emb_1]; exact xhalf_emb_1 d j

end Cert.KernelIdeal.Proof

end
-- ==== Proof.Schedule.lean ====
/- The protocol of the run: each device's sixty-five semaphores, what a signal or a copy hands over through them, and the
   order in which they are waited for.

   A device's barrier receives one unit from each neighbour; with it the neighbour hands over the parts of its own result
   that this device is going to write. A copy's sending semaphore gives the source back, its receiving semaphore the
   place written, holding its part of the result. -/
module

public import proofs.«01_k».proof.Proof.Contents
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The ghost state of the cells below; beside it the pipeline keeps its own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The semaphores a device takes part with: its barrier, and for each chunk the sending and the receiving one of the
    first phase (`0`, `1`) and of the second (`2`, `3`). -/
abbrev Part : Type := Option (Fin 4 × Fin 16)

def ksem : Part → SemLoc sig := fun
  | none => .reg bar
  | some (0, k) => .dma (snd1 k)
  | some (1, k) => .dma (rcv1 k)
  | some (2, k) => .dma (snd2 k)
  | some (3, k) => .dma (rcv2 k)

abbrev kcell (c : Dev nD) (i : Part) : GSem nD τ sig := ((c : Thread nD τ), ksem i)

/-- Which of a device's semaphores this is, if it is one of those. -/
def partOf : SemLoc sig → Option Part := fun
  | .reg _ => some none
  | .dma q => if 2 ≤ q.val then
      some (some (⟨(q.val - 2) / 16 % 4, Nat.mod_lt _ (by decide)⟩, ⟨(q.val - 2) % 16, Nat.mod_lt _ (by decide)⟩))
    else none

theorem partOf_ksem : ∀ i : Part, partOf (ksem i) = some i := by decide +kernel

theorem ksem_injective : Function.Injective ksem := fun i j h =>
  Option.some.inj ((partOf_ksem i).symm.trans ((congrArg partOf h).trans (partOf_ksem j)))

theorem kcell_inj {c c' : Dev nD} {i i' : Part} : kcell c i = kcell c' i' ↔ c = c' ∧ i = i' := by
  refine ⟨fun h => ⟨?_, ksem_injective (congrArg Prod.snd h)⟩, by rintro ⟨rfl, rfl⟩; rfl⟩
  have := congrArg (fun g : GSem nD τ sig => g.1.1) h
  exact this

/-- What a copy of one chunk adds to its semaphores. -/
abbrev N : ℕ := (slot 0).view.dmaCredit
theorem N_pos : 0 < N := View.dmaCredit_pos _ (by decide)

/-! ## The buffers' parts -/

/-- The elements `S` of device `c`'s result, its operand, or its sending scratch, holding `f`. -/
def oPts (c : Dev nD) (S : Finset S4096x512.Idx) (f : S4096x512.Idx → Elt F .bf16) : sProp 𝕄 :=
  ((c : Thread nD τ).loc cc0_stg1_0) ↦[S]{fullShare} f
def xPts (c : Dev nD) (f : S2048x1024.Idx → Elt F .bf16) : sProp 𝕄 :=
  ((c : Thread nD τ).loc cc0_stg0_0) ↦{fullShare} f
def sPts (c : Dev nD) (S : Finset S16x64x512.Idx) (f : S16x64x512.Idx → Elt F .bf16) : sProp 𝕄 :=
  ((c : Thread nD τ).loc cc0_scratch0) ↦[S]{fullShare} f

omit [FloatOps F] in
instance oPts_storable (c : Dev nD) (S) (f : S4096x512.Idx → Elt F .bf16) :
    BI.Storable (upEmb : UEmb _ 𝕄) (oPts c S f) := by unfold oPts; infer_instance
omit [FloatOps F] in
instance sPts_storable (c : Dev nD) (S) (f : S16x64x512.Idx → Elt F .bf16) :
    BI.Storable (upEmb : UEmb _ 𝕄) (sPts c S f) := by unfold sPts; infer_instance

/-! ## The schedule -/

/-- How often a cell is paid, what each payment adds, and how much its owner waits for. -/
def dutiesOf : Part → Finset Bool := fun | none => Finset.univ | some _ => {false}
def amountOf : Part → ℕ := fun | none => 1 | some _ => N
def expectOf : Part → ℕ := fun | none => 2 | some _ => N

/-- What a payment hands over. -/
def payOf (X : Operands F) (c : Dev nD) : Part → Bool → sProp 𝕄 := fun
  | none, false => bigSep Finset.univ fun k : Fin 16 => iprop(∃ f, oPts (yp c) (mineSet (yp c) k) f)
  | none, true => bigSep Finset.univ fun k : Fin 16 => iprop(∃ f, oPts (xp c) (theirSet (xp c) k) f)
  | some (0, k), _ => iprop(∃ f, sPts c (slotSet k) f)
  | some (1, k), _ => oPts c (mineSet c k) (out X c)
  | some (2, k), _ => oPts c (mineSet c k) (out X c)
  | some (3, k), _ => oPts c (theirSet c k) (out X c)

omit [FloatOps F] in
instance payOf_storable (X : Operands F) (c : Dev nD) (i : Part) (d : Bool) :
    BI.Storable (upEmb : UEmb _ 𝕄) (payOf X c i d) := by
  unfold payOf
  split <;> infer_instance

/-- One round: every cell of every device is paid and waited for once. -/
def Rd (X : Operands F) : Rounds.Schedule (GSem nD τ sig) Bool 𝕄 where
  duties g r := if r = 0 ∧ g.1.2 = .tc then (partOf g.2).elim ∅ dutiesOf else ∅
  amount g _ _ := (partOf g.2).elim 1 amountOf
  payload g _ d := (partOf g.2).elim iprop(emp) fun i => payOf X g.1.1 i d
  amount_pos g _ _ _ := by
    cases h : partOf g.2 with
    | none => exact Nat.one_pos
    | some i => cases i with
      | none => exact Nat.one_pos
      | some _ => exact N_pos

omit [FloatOps F] in
instance Rd_payload_storable (X : Operands F) (g : GSem nD τ sig) (r : ℕ) (d : Bool) :
    BI.Storable (upEmb : UEmb _ 𝕄) ((Rd X).payload g r d) := by
  show BI.Storable upEmb ((partOf g.2).elim iprop(emp) fun i => payOf X g.1.1 i d)
  cases partOf g.2 <;> (dsimp only [Option.elim]; infer_instance)

section Sched
variable (X : Operands F) (c : Dev nD) (i : Part)

omit [FloatOps F] in
theorem duties_cell : (Rd X).duties (kcell c i) 0 = dutiesOf i := by
  dsimp only [Rd]; rw [if_pos ⟨rfl, rfl⟩, partOf_ksem]; rfl
omit [FloatOps F] in
theorem duties_later (g : GSem nD τ sig) : ∀ r, 1 ≤ r → (Rd X).duties g r = ∅ :=
  fun r hr => by dsimp only [Rd]; exact if_neg fun h => by omega
omit [FloatOps F] in
theorem amount_cell (d : Bool) : (Rd X).amount (kcell c i) 0 d = amountOf i := by
  dsimp only [Rd]; rw [partOf_ksem]; rfl
omit [FloatOps F] in
theorem payload_cell (d : Bool) : (Rd X).payload (kcell c i) 0 d = payOf X c i d := by
  dsimp only [Rd]; rw [partOf_ksem]; rfl
omit [FloatOps F] in
theorem expect_cell : (Rd X).expect (kcell c i) 0 = expectOf i := by
  unfold Schedule.expect Schedule.amountOf
  rw [duties_cell, Finset.sum_congr rfl fun d _ => amount_cell X c i d]
  cases i
  · rfl
  · exact Finset.sum_singleton _ _

/-- What the owner has after its wait. -/
def restOf : sProp 𝕄 := bigSep (dutiesOf i) fun d => payOf X c i d

omit [FloatOps F] in
theorem rest_cell : bigSep ((Rd X).duties (kcell c i) 0 \ ∅) (fun d => (Rd X).payload (kcell c i) 0 d)
    = restOf X c i := by
  rw [Finset.sdiff_empty, duties_cell]
  exact bigSep_congr fun d _ => payload_cell X c i d

omit [FloatOps F] in
theorem rest_none : restOf X c none = iprop(payOf X c none false ∗ payOf X c none true) := by
  unfold restOf
  exact bigSep_univ_eq_bigSepL [false, true] (by decide) (by decide) _
omit [FloatOps F] in
theorem rest_some (jk : Fin 4 × Fin 16) : restOf X c (some jk) = payOf X c (some jk) false := by
  unfold restOf dutiesOf
  exact bigSep_singleton

end Sched

/-! ## What a device owes, and the order of the waits -/

/-- The credit owed to device `c`'s cells `j` for the chunks of a list, the first chunk's last. -/
def owedTo (c : Dev nD) (j : Fin 4) : List (Fin 16) → CellTallies nD τ sig Unit
  | [] => 0
  | k :: ks => owedTo c j ks + tallyAt (kcell c (some (j, k))) () N

/-- What device `c` owes before the chunks `ks` of the first phase, and before it has signalled. -/
def owed1 (c : Dev nD) (ks : List (Fin 16)) : CellTallies nD τ sig Unit := owedTo (xp c) 3 chunks + owedTo (yp c) 1 ks
def owed0 (c : Dev nD) : CellTallies nD τ sig Unit :=
  owed1 c chunks + tallyAt (kcell (xp c) none) () 1 + tallyAt (kcell (yp c) none) () 1

def L (g : GSem nD τ sig) : Finset Unit := if g.1.2 = .tc then {()} else ∅

/-- Barriers are waited for first, then the receiving semaphores of the first phase, then those of the second. -/
def lvOf : Part → ℕ := fun | none => 1 | some (1, _) => 2 | some (3, _) => 3 | _ => 0
def lv (g : GSem nD τ sig) (_ : Unit) : ℕ := (partOf g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Part) : lv (kcell c i) () = lvOf i := by unfold lv; rw [partOf_ksem]; rfl

theorem add_pos_or {A B : CellTallies nD τ sig Unit} {g : GSem nD τ sig} {u : Unit} (h : 0 < (A + B) g u) :
    0 < A g u ∨ 0 < B g u := by
  rw [Pi.add_apply, Finsupp.add_apply] at h; omega

theorem tallyAt_pos {g g' : GSem nD τ sig} {n : ℕ} {u : Unit} (h : 0 < tallyAt g' () n g u) : g = g' := by
  rw [tallyAt_apply] at h
  by_contra hn
  rw [if_neg fun h' => hn h'.1] at h
  exact Nat.lt_irrefl 0 h

theorem owedTo_pos {c : Dev nD} {j : Fin 4} {ks : List (Fin 16)} {g : GSem nD τ sig} {u : Unit}
    (h : 0 < owedTo c j ks g u) : ∃ k, g = kcell c (some (j, k)) := by
  induction ks with
  | nil => exact absurd h (Nat.lt_irrefl 0)
  | cons k ks ih => exact (add_pos_or h).elim ih fun h => ⟨k, tallyAt_pos h⟩

/-- Everything in `O` is owed to cells that are waited for after level `n`. -/
def Above (n : ℕ) (O : CellTallies nD τ sig Unit) : Prop :=
  ∀ (g : GSem nD τ sig) (u : Unit), 0 < O g u → ∃ c i, g = kcell c i ∧ n < lvOf i

theorem above_owed2 (c : Dev nD) (ks : List (Fin 16)) : Above 2 (owedTo (xp c) 3 ks) := fun g u h => by
  obtain ⟨k, rfl⟩ := owedTo_pos h
  exact ⟨_, _, rfl, show 2 < 3 by decide⟩

theorem above_owed1 (c : Dev nD) (ks : List (Fin 16)) : Above 1 (owed1 c ks) := fun g u h => by
  rcases add_pos_or h with h | h
  · obtain ⟨k, rfl⟩ := owedTo_pos h
    exact ⟨_, _, rfl, show 1 < 3 by decide⟩
  · obtain ⟨k, rfl⟩ := owedTo_pos h
    exact ⟨_, _, rfl, show 1 < 2 by decide⟩

theorem above_owed0 (c : Dev nD) : Above 0 (owed0 c) := fun g u h => by
  rcases add_pos_or h with h | h
  · rcases add_pos_or h with h | h
    · obtain ⟨c', i, h, h'⟩ := above_owed1 c chunks g u h
      exact ⟨c', i, h, by omega⟩
    · exact ⟨_, _, tallyAt_pos h, Nat.one_pos⟩
  · exact ⟨_, _, tallyAt_pos h, Nat.one_pos⟩

omit [FloatOps F] in
/-- A semaphore may be waited for while only later ones are owed to. -/
theorem mayWait_above (c : Dev nD) (sm : SemLoc sig) {n : ℕ} {O : CellTallies nD τ sig Unit} (hO : Above n O)
    (hsm : lv ((c : Thread nD τ), sm) () ≤ n) : (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u h => by obtain ⟨c', i, rfl, -⟩ := hO g u h; exact Finset.mem_singleton_self _)
    (fun p hp => by rw [Finset.mem_singleton.mp hp]; exact hsm)
    (fun g u h => by obtain ⟨c', i, rfl, hi⟩ := hO g u h; rw [lv_cell]; exact hi)

/-! ## The parts one by one -/

omit [FloatOps F] in
/-- A separating product over a device's cells: the barrier's, and each of the four kinds over the chunks. -/
theorem bigSep_part (Φ : Part → sProp 𝕄) : bigSep Finset.univ Φ
    = iprop(Φ none ∗ (bigSep Finset.univ fun k => Φ (some (0, k))) ∗ (bigSep Finset.univ fun k => Φ (some (1, k)))
        ∗ (bigSep Finset.univ fun k => Φ (some (2, k))) ∗ (bigSep Finset.univ fun k => Φ (some (3, k)))) := by
  rw [show (Finset.univ : Finset Part) = insert none (Finset.univ.map Function.Embedding.some) from by
      ext i; cases i <;> simp,
    bigSep_insert (by simp), bigSep_map, bigSep_univ_prod]
  exact congrArg (fun P => iprop(Φ none ∗ P)) (bigSep_univ_eq_bigSepL [0, 1, 2, 3] (by decide) (by decide) _)

end Cert.KernelIdeal.Proof

end
-- ==== Proof.Steps.lean ====
/- What each step of the body does: the handshake, one chunk of each phase, and the copy of the half that stays. A phase is
   its chunk's step taken for every chunk (`wp_each`). -/
module

public import proofs.«01_k».proof.Proof.Schedule

@[expose] public section

set_option maxRecDepth 16384

noncomputable section

namespace Cert.KernelIdeal.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

abbrev 𝒱₀ : Variants := Variants.none

/-- A program run on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every step shares -/

variable (X : Operands F) (K : Dev nD × Part → ℕ)

/-- Every cell's invariant, and that its round has begun. -/
def records : sProp 𝕄 :=
  iprop((bigSep Finset.univ fun ci : Dev nD × Part => cellInv ER (Rd X) (K ci) (kcell ci.1 ci.2))
    ∗ bigSep Finset.univ fun ci : Dev nD × Part => reached ER (kcell ci.1 ci.2) 0)

omit [FloatOps F] in
instance records_persistent : BI.Persistent (records X K) := by unfold records; infer_instance

omit [FloatOps F] in
theorem inv_at (c : Dev nD) (i : Part) : records X K ⊢ cellInv ER (Rd X) (K (c, i)) (kcell c i) := by
  unfold records
  iintro ⟨H, -⟩
  iapply (show (bigSep Finset.univ fun ci : Dev nD × Part => (cellInv ER (Rd X) (K ci) (kcell ci.1 ci.2) : sProp 𝕄))
    ⊢ cellInv ER (Rd X) (K (c, i)) (kcell c i) from bigSep_elim (Finset.mem_univ (c, i)))
  iexact H

omit [FloatOps F] in
theorem reached_at (c : Dev nD) (i : Part) : records X K ⊢ reached ER (kcell c i) 0 := by
  unfold records
  iintro ⟨-, H⟩
  iapply (show (bigSep Finset.univ fun ci : Dev nD × Part => (reached ER (kcell ci.1 ci.2) 0 : sProp 𝕄))
    ⊢ reached ER (kcell c i) 0 from bigSep_elim (Finset.mem_univ (c, i)))
  iexact H

/-- Device `c` owes `O`. -/
def owing (c : Dev nD) (O : CellTallies nD τ sig Unit) : sProp 𝕄 := iprop(∃ W, owes (c : Thread nD τ) O W)

/-- Device `c` is at the beginning of its cell `i`'s round; what its wait there takes; the cell when it is closed. -/
def before (c : Dev nD) (i : Part) : sProp 𝕄 := atPos ER (kcell c i) 0 ∅ 0
def due (c : Dev nD) (i : Part) : sProp 𝕄 := cred (tallyAt (kcell c i) () (expectOf i))
def closed (c : Dev nD) (i : Part) : sProp 𝕄 := semVal (kcell c i) 0
def token (c : Dev nD) (i : Part) (d : Bool) : sProp 𝕄 := dutyTok ER (kcell c i) 0 d

omit [FloatOps F] in
/-- One factor of a separating product taken out. -/
theorem bigSep_take {k : Fin 16} {S : Finset (Fin 16)} (h : k ∉ S) (Φ : Fin 16 → sProp 𝕄) :
    bigSep (insert k S) Φ = iprop(Φ k ∗ bigSep S Φ) := bigSep_insert h

/-- A step for every chunk, from one step for any chunk. -/
theorem wp_each (c : Dev nD) (f : Fin 16 → Body F) (R : List (Fin 16) → sProp 𝕄) (Φ Ψ : Fin 16 → sProp 𝕄)
    (h : ∀ k ks, iprop(R (k :: ks) ∗ Φ k) ⊢ run c (f k) (fun _ => iprop(R ks ∗ Ψ k))) :
    ∀ ks : List (Fin 16), ks.Nodup →
      iprop(R ks ∗ bigSep ks.toFinset Φ) ⊢ run c (each f ks) (fun _ => iprop(R [] ∗ bigSep ks.toFinset Ψ))
  | [], _ => by
    unfold each run
    rw [Prog.pure_eq_ret, wp_ret, List.toFinset_nil, bigSep_empty, bigSep_empty]
    iintro H; imodintro; iexact H
  | k :: ks, hk => by
    have hn : k ∉ ks.toFinset := fun hm => (List.nodup_cons.mp hk).1 (List.mem_toFinset.mp hm)
    unfold each run
    rw [wp_bind, List.toFinset_cons, bigSep_take hn, bigSep_take hn]
    iintro ⟨HR, HΦ, Hrest⟩
    ihave Hw := (h k ks) $$ [HR HΦ]
    · isplitl [HR] <;> iassumption
    iapply (wp_wand frame (wpE (defs₀ (F := F)) 𝒱₀ (c : Thread nD τ) none) Set.univ) $$ Hw
    iintro %_ ⟨HR, HΨ⟩
    ihave Hw := (wp_each c f R Φ Ψ h ks (List.nodup_cons.mp hk).2) $$ [HR Hrest]
    · isplitl [HR] <;> iassumption
    iapply (wp_wand frame (wpE (defs₀ (F := F)) 𝒱₀ (c : Thread nD τ) none) Set.univ) $$ Hw
    iintro %_ ⟨HR, HΨs⟩
    isplitl [HR]; · iexact HR
    isplitl [HΨ] <;> iassumption

theorem chunks_nodup : chunks.Nodup := by decide
theorem chunks_univ : chunks.toFinset = Finset.univ := by decide

/-- The same over all the chunks. -/
theorem wp_chunks (c : Dev nD) (f : Fin 16 → Body F) (R : List (Fin 16) → sProp 𝕄) (Φ Ψ : Fin 16 → sProp 𝕄)
    (h : ∀ k ks, iprop(R (k :: ks) ∗ Φ k) ⊢ run c (f k) (fun _ => iprop(R ks ∗ Ψ k))) :
    iprop(R chunks ∗ bigSep Finset.univ Φ) ⊢ run c (each f chunks) (fun _ => iprop(R [] ∗ bigSep Finset.univ Ψ)) := by
  have := wp_each c f R Φ Ψ h chunks chunks_nodup
  rwa [chunks_univ] at this

/-! ## Waits -/

/-- A wait for one chunk's copy on any of a device's cells: the cell is closed, and what the copy hands over is here. -/
theorem wp_wait_part (c : Dev nD) (jk : Fin 4 × Fin 16) {q : DmaSem sig} (hq : ksem (some jk) = .dma q)
    {src dst : Memref sig .tc .vmem S64x512 .bf16} {hs : src.view.WordExact} {hd : dst.view.WordExact}
    (hN : dst.view.dmaCredit = N) {n : ℕ} {O : CellTallies nD τ sig Unit} (hO : Above n O) (hn : lvOf (some jk) ≤ n)
    {α : Type} {k : PUnit → Prog (TpuEff nD τ sig (Elt F) Λ₀ .tc) α} {Q : α → sProp 𝕄} :
    iprop(records X K ∗ levAts L lv ∗ due c (some jk) ∗ before c (some jk) ∗ owing c O)
      ⊢ iprop(((closed c (some jk) ∗ payOf X c (some jk) false ∗ owing c O) -∗ run c (k ⟨⟩) Q)
          -∗ run c (.op (.waitDma2 q src dst hs hd) k) Q) := by
  unfold due before closed owing
  iintro ⟨#HR, #Hlev, Hc, Hat, ⟨%W, HO⟩⟩ Hk
  iapply (Rounds.wp_wait_rest_token 𝒱₀ ER (Rd X) (c : Thread nD τ) none (κ := K (c, some jk)) (sm := ksem (some jk))
      (k' := N) (fun P => by rw [hq, ← hN]; exact wpE_waitDma2_eq 𝒱₀ (c : Thread nD τ) none Set.univ P)
      (Set.mem_univ _) () (O := O) (W := W) (R := 0) (m := 0) (T := ∅)
      (by rw [Nat.zero_add]; exact (expect_cell X c (some jk)).symm)) $$ [Hc Hat HO]
  · isplitr; · iapply (inv_at X K c (some jk)); iexact HR
    isplitl [Hc]; · iexact Hc
    isplitl [HO]; · iexact HO
    isplitr; · iapply (mayWait_above c (ksem (some jk)) hO (by rw [lv_cell]; exact hn)); iexact Hlev
    iexact Hat
  iintro ⟨HO, Hat, -, Hpay⟩
  ihave Hp := (Entails.of_eq ((rest_cell X c (some jk)).trans (rest_some X c jk))) $$ Hpay
  imod (Rounds.cell_close ER (Rd X) (Set.mem_univ (K (c, some jk))) (fun h => h) (R := 0 + 1)
    (duties_later X (kcell c (some jk)))) $$ [Hat] with Hz
  · isplitr; · iapply (inv_at X K c (some jk)); iexact HR
    iexact Hat
  iapply Hk
  isplitl [Hz]; · iexact Hz
  isplitl [Hp]; · iexact Hp
  iexists _; iexact HO

/-! ## The handshake -/

set_option maxHeartbeats 800000 in
/-- Both neighbours are told, and hand over the parts of their results this device writes. -/
theorem wp_enter (c : Dev nD) :
    iprop(records X K ∗ levAts L lv ∗ due c none ∗ before c none ∗ owing c (owed0 c)
        ∗ token (yp c) none false ∗ token (xp c) none true ∗ payOf X (yp c) none false ∗ payOf X (xp c) none true)
      ⊢ run c (enter (F := F) c) (fun _ => iprop(closed c none ∗ owing c (owed1 c chunks)
          ∗ payOf X c none false ∗ payOf X c none true)) := by
  unfold run enter due before closed owing token
  simp only [semSignalWord, semWaitWord, Prog.lift, Prog.bind_op, Prog.bind_ret, Prog.pure_eq_ret]
  iintro ⟨#HR, #Hlev, Hc, Hat, ⟨%W, HO⟩, HtY, HtX, HpY, HpX⟩
  unfold owed0
  iapply (Rounds.wp_signal 𝒱₀ ER (Rd X) (c : Thread nD τ) none (dst := (yp c : Thread nD τ)) (κ := K (yp c, none))
      (d := false) (show false ∈ (Rd X).duties (kcell (yp c) none) 0 by rw [duties_cell]; exact Finset.mem_univ _)
      ((amount_cell X (yp c) none false).trans (by decide)) () _ rfl) $$ [HO HtY HpY]
  · isplitr; · iapply (inv_at X K (yp c) none); iexact HR
    isplitl [HO]; · iexact HO
    isplitl [HtY]; · iexact HtY
    isplitl [HpY]; · iapply (Entails.of_eq (show payOf X (yp c) none false = (Rd X).payload ((yp c : Thread nD τ), .reg bar) 0 false from
        (payload_cell X (yp c) none false).symm)); iexact HpY
    iapply (reached_at X K (yp c) none); iexact HR
  iintro HO
  iapply (Rounds.wp_signal 𝒱₀ ER (Rd X) (c : Thread nD τ) none (dst := (xp c : Thread nD τ)) (κ := K (xp c, none))
      (d := true) (show true ∈ (Rd X).duties (kcell (xp c) none) 0 by rw [duties_cell]; exact Finset.mem_univ _)
      ((amount_cell X (xp c) none true).trans (by decide)) () _ rfl) $$ [HO HtX HpX]
  · isplitr; · iapply (inv_at X K (xp c) none); iexact HR
    isplitl [HO]; · iexact HO
    isplitl [HtX]; · iexact HtX
    isplitl [HpX]; · iapply (Entails.of_eq (show payOf X (xp c) none true = (Rd X).payload ((xp c : Thread nD τ), .reg bar) 0 true from
        (payload_cell X (xp c) none true).symm)); iexact HpX
    iapply (reached_at X K (xp c) none); iexact HR
  iintro HO
  iapply (Rounds.wp_wait_rest_token 𝒱₀ ER (Rd X) (c : Thread nD τ) none (κ := K (c, none))
      (wpE_semWait_eq 𝒱₀ (c : Thread nD τ) none Set.univ) (Set.mem_univ _) () (O := owed1 c chunks) (W := W)
      (R := 0) (m := 0) (T := ∅)
      (show 0 + _ = (Rd X).expect (kcell c none) 0 by rw [expect_cell]; decide)) $$ [Hc HO Hat]
  · isplitr; · iapply (inv_at X K c none); iexact HR
    isplitl [Hc]; · iexact Hc
    isplitl [HO]; · iexact HO
    isplitr; · iapply (mayWait_above c (ksem none) (above_owed1 c chunks) (by rw [lv_cell]; exact le_refl 1)); iexact Hlev
    iexact Hat
  iintro ⟨HO, Hat, -, Hpay⟩
  ihave Hp := (Entails.of_eq (show bigSep ((Rd X).duties ((c : Thread nD τ), .reg bar) 0 \ ∅)
      (fun d => (Rd X).payload ((c : Thread nD τ), .reg bar) 0 d) = iprop(payOf X c none false ∗ payOf X c none true) from
    (rest_cell X c none).trans (rest_none X c))) $$ Hpay
  imod (Rounds.cell_close ER (Rd X) (Set.mem_univ (K (c, none))) (fun h => h) (R := 0 + 1)
    (duties_later X (kcell c none))) $$ [Hat] with Hz
  · isplitr; · iapply (inv_at X K c none); iexact HR
    iexact Hat
  rw [wp_ret]; imodintro
  isplitl [Hz]; · iexact Hz
  isplitl [HO]; · iexists _; iexact HO
  iexact Hp

end Cert.KernelIdeal.Proof

end
-- ==== Proof.Phases.lean ====
/- One chunk of each phase of the body, and the half that stays. -/
module

public import proofs.«01_k».proof.Proof.Steps

@[expose] public section

set_option maxRecDepth 16384

noncomputable section

namespace Cert.KernelIdeal.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (X : Operands F) (K : Dev nD × Part → ℕ)

/-! ## The copies -/

theorem owed1_cons (c : Dev nD) (k : Fin 16) (ks : List (Fin 16)) :
    owed1 c (k :: ks) = owed1 c ks + tallyAt (kcell (yp c) (some (1, k))) () N := by
  unfold owed1; rw [owedTo, add_assoc]

theorem mem_duties (c : Dev nD) (jk : Fin 4 × Fin 16) : false ∈ (Rd X).duties (kcell c (some jk)) 0 := by
  rw [duties_cell]; exact Finset.mem_singleton_self _

/-- A copy of one chunk from device `c` to device `n`, paying a cell of each: the source is what the first is paid, the
    place written what the second is. -/
theorem wp_copy (c n : Dev nD) (i j : Fin 4 × Fin 16) {qs qr : DmaSem sig} (hi : ksem (some i) = .dma qs)
    (hj : ksem (some j) = .dma qr) {src dst : Memref sig .tc .vmem S64x512 .bf16} (hN : dst.view.dmaCredit = N)
    {fs : Buf (Elt F) (src.view.loc (c : Thread nD τ))} {fd : Buf (Elt F) (dst.view.loc (n : Thread nD τ))}
    (h1 : (src.view.loc (c : Thread nD τ) ↦[src.view.set]{fullShare} fs : sProp 𝕄) ⊢ payOf X c (some i) false)
    (h2 : (dst.view.loc (n : Thread nD τ) ↦[dst.view.set]{fullShare}
        (dst.view.write (Elt F) fd (src.view.read (Elt F) fs) Finset.univ) : sProp 𝕄) ⊢ payOf X n (some j) false)
    {O' O : CellTallies nD τ sig Unit} (hO : O' = O + tallyAt (kcell n (some j)) () N)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {P : PUnit → Prog (TpuEff nD τ sig (Elt F) Λ₀ .tc) α} {Q : α → sProp 𝕄} :
    iprop(records X K ∗ (src.view.loc (c : Thread nD τ) ↦[src.view.set]{fullShare} fs)
        ∗ (dst.view.loc (n : Thread nD τ) ↦[dst.view.set]{fullShare} fd) ∗ owing c O'
        ∗ token c (some i) false ∗ token n (some j) false)
      ⊢ iprop(((due c (some i) ∗ owing c O) -∗ run c (P ⟨⟩) Q)
          -∗ run c (.op (.enqueueDma src (.remote (Dev.tc n : Thread nD τ) dst (.dma qs) hsc) (.dma qr) hsrc hdst hsem) P)
            Q) := by
  unfold owing token due
  have m1 := mem_duties X c i
  have m2 := mem_duties X n j
  have a1 := amount_cell X c (some i) false
  have a2 := amount_cell X n (some j) false
  rw [← payload_cell] at h1 h2
  iintro ⟨#HR, Hs, Hd, ⟨%W, HO⟩, Ht1, Ht2⟩ Hk
  ihave #I1 := (inv_at X K c (some i)) $$ HR
  ihave #I2 := (inv_at X K n (some j)) $$ HR
  ihave #R1 := (reached_at X K c (some i)) $$ HR
  ihave #R2 := (reached_at X K n (some j)) $$ HR
  unfold kcell at *
  rw [hi] at *
  rw [hj] at *
  have hw := Rounds.wp_send_pointsTo (Γ := .empty) (Q := Q) 𝒱₀ ER (Rd X) (c : Thread nD τ) none (defs := defs₀ (F := F))
    (c' := (n : Thread nD τ)) (src := src) (dst := dst) (hsc := hsc) (hsrc := hsrc) (hdst := hdst) (hsem := hsem) (k := P)
    (κ₁ := K (c, some i)) (κ₂ := K (n, some j)) m1 m2 () () N hN a1 a2 O hO (W := W) h1 h2 (Es := Set.univ)
  iapply hw $$ [Hs Hd HO Ht1 Ht2]
  · isplitr; · iexact I1
    isplitr; · iexact I2
    isplitl [Hs]; · iexact Hs
    isplitl [Hd]; · iexact Hd
    isplitl [HO]; · iexact HO
    isplitl [Ht1]; · iexact Ht1
    isplitr; · iexact R1
    isplitl [Ht2]; · iexact Ht2
    iexact R2
  iintro ⟨Hc, HO⟩
  iapply Hk
  isplitl [Hc]; · iexact Hc
  iexists W; iexact HO

theorem credit_to (c : Dev nD) (k : Fin 16) : (toView c k).view.dmaCredit = N := rfl
theorem credit_slot (k : Fin 16) : (slot k).view.dmaCredit = N := rfl
theorem credit_their (c : Dev nD) (k : Fin 16) : (theirView c k).view.dmaCredit = N := rfl
theorem credit_mine (c : Dev nD) (k : Fin 16) : (mineView c k).view.dmaCredit = N := rfl

omit [FloatOps F] in
theorem sPts_slot (c : Dev nD) (k : Fin 16) (g : S16x64x512.Idx → Elt F .bf16) : sPts c (slotSet k) g
    = ((slot k).view.loc (c : Thread nD τ) ↦[(slot k).view.set]{fullShare} g : sProp 𝕄) := by
  rw [slot_set]; rfl
omit [FloatOps F] in
theorem oPts_to (n c : Dev nD) (k : Fin 16) (f : S4096x512.Idx → Elt F .bf16) : oPts n (mineSet (yp c) k) f
    = ((toView c k).view.loc (n : Thread nD τ) ↦[(toView c k).view.set]{fullShare} f : sProp 𝕄) := by
  rw [toView_set]; rfl
omit [FloatOps F] in
theorem oPts_mine (n c : Dev nD) (k : Fin 16) (f : S4096x512.Idx → Elt F .bf16) : oPts n (mineSet c k) f
    = ((mineView c k).view.loc (n : Thread nD τ) ↦[(mineView c k).view.set]{fullShare} f : sProp 𝕄) := by
  rw [mineView_set]; rfl

omit [FloatOps F] in
theorem oPts_their (c : Dev nD) (k : Fin 16) (f : S4096x512.Idx → Elt F .bf16) : oPts (xp c) (theirSet (xp c) k) f
    = ((mineView c k).view.loc (xp c : Thread nD τ) ↦[(mineView c k).view.set]{fullShare} f : sProp 𝕄) := by
  rw [theirSet_xp, oPts_mine]

/-! What the four kinds of copies pay. -/

omit [FloatOps F] in
theorem pay_slot (c : Dev nD) (k : Fin 16) : payOf X c (some (0, k)) false = iprop(∃ f, sPts c (slotSet k) f) := rfl
omit [FloatOps F] in
theorem pay_mine (c : Dev nD) (k : Fin 16) : payOf X c (some (1, k)) false = oPts c (mineSet c k) (out X c) := rfl
omit [FloatOps F] in
theorem pay_mine' (c : Dev nD) (k : Fin 16) : payOf X c (some (2, k)) false = oPts c (mineSet c k) (out X c) := rfl
omit [FloatOps F] in
theorem pay_their (c : Dev nD) (k : Fin 16) : payOf X c (some (3, k)) false = oPts c (theirSet c k) (out X c) := rfl

omit [FloatOps F] in
/-- A slot given back, whatever it holds. -/
theorem back1 (c : Dev nD) (k : Fin 16) (g : S16x64x512.Idx → Elt F .bf16) :
    ((slot k).view.loc (c : Thread nD τ) ↦[(slot k).view.set]{fullShare} g : sProp 𝕄) ⊢ payOf X c (some (0, k)) false := by
  rw [← sPts_slot, pay_slot]
  iintro H; iexists g; iexact H

omit [FloatOps F] in
/-- Chunk `k` leaves a slot that holds it: it lands on the `y` neighbour as that device's result. -/
theorem sent1 (c : Dev nD) (k : Fin 16) (g : S16x64x512.Idx → Elt F .bf16)
    (hg : (slot k).view.read (Elt F) g = chunk X c k) (fd : S4096x512.Idx → Elt F .bf16) :
    ((toView c k).view.loc (yp c : Thread nD τ) ↦[(toView c k).view.set]{fullShare}
        ((toView c k).view.write (Elt F) fd ((slot k).view.read (Elt F) g) Finset.univ) : sProp 𝕄)
      ⊢ payOf X (yp c) (some (1, k)) false := by
  rw [hg, ← oPts_to]
  exact Entails.of_eq (pointsTo_congr (landed_to X c k fd))

omit [FloatOps F] in
/-- A forwarded chunk given back as it was. -/
theorem back2 (c : Dev nD) (k : Fin 16) :
    ((mineView c k).view.loc (c : Thread nD τ) ↦[(mineView c k).view.set]{fullShare} (out X c) : sProp 𝕄)
      ⊢ payOf X c (some (2, k)) false := by
  rw [← oPts_mine]
  exact Entails.refl _

omit [FloatOps F] in
/-- Chunk `k` forwarded lands on the `x` neighbour as that device's result. -/
theorem sent2 (c : Dev nD) (k : Fin 16) (fd : S4096x512.Idx → Elt F .bf16) :
    ((mineView c k).view.loc (xp c : Thread nD τ) ↦[(mineView c k).view.set]{fullShare}
        ((mineView c k).view.write (Elt F) fd ((mineView c k).view.read (Elt F) (out X c)) Finset.univ) : sProp 𝕄)
      ⊢ payOf X (xp c) (some (3, k)) false := by
  rw [← oPts_mine, ← theirSet_xp]
  exact Entails.of_eq (pointsTo_congr (landed_their X c k fd))

/-- The copy of chunk `k` to the `y` neighbour. -/
theorem wp_copy1 (c : Dev nD) (k : Fin 16) (g : S16x64x512.Idx → Elt F .bf16)
    (hg : (slot k).view.read (Elt F) g = chunk X c k) (fd : S4096x512.Idx → Elt F .bf16) (ks : List (Fin 16))
    {hsc : (toView c k).view.ref.isScScratch = false} {hsrc : (slot k).view.WordExact} {hdst : (toView c k).view.WordExact}
    {hsem : DmaTarget.Typed .vmem (.dma (rcv1 k)) (.remote (Dev.tc (yp c) : Thread nD τ) (toView c k) (.dma (snd1 k)) hsc)}
    {α : Type} {P : PUnit → Prog (TpuEff nD τ sig (Elt F) Λ₀ .tc) α} {Q : α → sProp 𝕄} :
    iprop(records X K ∗ sPts c (slotSet k) g ∗ oPts (yp c) (mineSet (yp c) k) fd ∗ owing c (owed1 c (k :: ks))
        ∗ token c (some (0, k)) false ∗ token (yp c) (some (1, k)) false)
      ⊢ iprop(((due c (some (0, k)) ∗ owing c (owed1 c ks)) -∗ run c (P ⟨⟩) Q)
          -∗ run c (.op (.enqueueDma (slot k) (.remote (Dev.tc (yp c) : Thread nD τ) (toView c k) (.dma (snd1 k)) hsc)
            (.dma (rcv1 k)) hsrc hdst hsem) P) Q) := by
  have hw := wp_copy X K c (yp c) (0, k) (1, k) (qs := snd1 k) (qr := rcv1 k) rfl rfl (src := slot k) (dst := toView c k)
    (credit_to c k) (back1 X c k g) (sent1 X c k g hg fd) (owed1_cons c k ks) (hsc := hsc) (hsrc := hsrc) (hdst := hdst)
    (hsem := hsem) (P := P) (Q := Q)
  rw [← sPts_slot, ← oPts_to] at hw
  with_reducible exact hw

/-- The copy of chunk `k` on to the `x` neighbour. -/
theorem wp_copy2 (c : Dev nD) (k : Fin 16) (fd : S4096x512.Idx → Elt F .bf16) (ks : List (Fin 16))
    {hsc : (mineView c k).view.ref.isScScratch = false} {hsrc hdst : (mineView c k).view.WordExact}
    {hsem : DmaTarget.Typed .vmem (.dma (rcv2 k)) (.remote (Dev.tc (xp c) : Thread nD τ) (mineView c k) (.dma (snd2 k)) hsc)}
    {α : Type} {P : PUnit → Prog (TpuEff nD τ sig (Elt F) Λ₀ .tc) α} {Q : α → sProp 𝕄} :
    iprop(records X K ∗ oPts c (mineSet c k) (out X c) ∗ oPts (xp c) (theirSet (xp c) k) fd
        ∗ owing c (owedTo (xp c) 3 (k :: ks)) ∗ token c (some (2, k)) false ∗ token (xp c) (some (3, k)) false)
      ⊢ iprop(((due c (some (2, k)) ∗ owing c (owedTo (xp c) 3 ks)) -∗ run c (P ⟨⟩) Q)
          -∗ run c (.op (.enqueueDma (mineView c k) (.remote (Dev.tc (xp c) : Thread nD τ) (mineView c k) (.dma (snd2 k))
            hsc) (.dma (rcv2 k)) hsrc hdst hsem) P) Q) := by
  have hw := wp_copy X K c (xp c) (2, k) (3, k) (qs := snd2 k) (qr := rcv2 k) rfl rfl (src := mineView c k)
    (dst := mineView c k) (credit_mine c k) (back2 X c k) (sent2 X c k fd) (O' := owedTo (xp c) 3 (k :: ks))
    (O := owedTo (xp c) 3 ks) rfl (hsc := hsc) (hsrc := hsrc) (hdst := hdst) (hsem := hsem) (P := P) (Q := Q)
  rw [← oPts_mine c c k, ← oPts_their] at hw
  with_reducible exact hw

/-! ## The steps -/

/-- Chunk `k` is staged and its copy to the `y` neighbour started. -/
theorem wp_send1 (c : Dev nD) (k : Fin 16) (ks : List (Fin 16)) :
    iprop((records X K ∗ xPts c (X c) ∗ owing c (owed1 c (k :: ks)))
        ∗ (∃ f, sPts c (slotSet k) f) ∗ (∃ f, oPts (yp c) (mineSet (yp c) k) f)
        ∗ token c (some (0, k)) false ∗ token (yp c) (some (1, k)) false)
      ⊢ run c (send1 c k) (fun _ => iprop((records X K ∗ xPts c (X c) ∗ owing c (owed1 c ks)) ∗ due c (some (0, k)))) := by
  unfold run send1
  simp only [Prog.lift, Prog.bind_op, Prog.bind_ret, Prog.pure_eq_ret]
  iintro ⟨⟨#HR, Hx, HO⟩, ⟨%fs, Hs⟩, ⟨%fd, Hd⟩, Ht0, Ht1⟩
  have hset : (sBuf.access (slotRect k)).set = slotSet k := View.set_slice_whole _ _
  unfold xPts
  iapply (wp_load 𝒱₀ (c : Thread nD τ) none Set.univ (m := xBuf) (Finset.subset_univ _)) $$ Hx; iintro Hx
  unfold sPts
  iapply (wp_load_rect 𝒱₀ (c : Thread nD τ) none Set.univ (m := sBuf) (r := slotRect k) (le_of_eq hset)) $$ Hs
  iintro Hs
  iapply (wp_store 𝒱₀ (c : Thread nD τ) none Set.univ (m := sBuf) (r := slotRect k) (Mk := Finset.univ)
    (le_of_eq hset)) $$ Hs
  iintro Hs
  iapply (wp_copy1 X K c k _ (staged k fs (chunk X c k)) fd ks) $$ [Hs Hd HO Ht0 Ht1]
  · isplitr; · iexact HR
    isplitl [Hs]; · unfold sPts; iexact Hs
    isplitl [Hd]; · iexact Hd
    isplitl [HO]; · iexact HO
    isplitl [Ht0] <;> iassumption
  iintro ⟨Hc, HO⟩
  unfold run
  rw [wp_ret]; imodintro
  isplitl [Hx HO]
  · isplitr; · iexact HR
    isplitl [Hx] <;> iassumption
  iexact Hc

/-- The half that stays is copied into the result. -/
theorem wp_keep (c : Dev nD) (f : S4096x512.Idx → Elt F .bf16) :
    iprop(xPts c (X c) ∗ oPts c (halfSet c) f)
      ⊢ run c (keep (F := F) c) (fun _ => iprop(xPts c (X c) ∗ oPts c (halfSet c) (out X c))) := by
  unfold run keep
  simp only [Prog.lift, Prog.bind_op, Prog.bind_ret, Prog.pure_eq_ret]
  iintro ⟨Hx, Ho⟩
  have hset : (oBuf.access (oHalf c)).set = halfSet c := View.set_slice_whole _ _
  unfold xPts oPts
  iapply (wp_load 𝒱₀ (c : Thread nD τ) none Set.univ (m := xBuf) (Finset.subset_univ _)) $$ Hx; iintro Hx
  iapply (wp_load_rect 𝒱₀ (c : Thread nD τ) none Set.univ (m := oBuf) (r := oHalf c) (le_of_eq hset)) $$ Ho
  iintro Ho
  iapply (wp_store 𝒱₀ (c : Thread nD τ) none Set.univ (m := oBuf) (r := oHalf c) (Mk := Finset.univ)
    (le_of_eq hset)) $$ Ho
  iintro Ho
  rw [wp_ret]; imodintro
  isplitl [Hx]; · iexact Hx
  iapply (Entails.of_eq (pointsTo_congr (kept X c f)))
  iexact Ho

/-- Chunk `k` arrives from the `y` neighbour and its copy on to the `x` neighbour is started. -/
theorem wp_send2 (c : Dev nD) (k : Fin 16) (ks : List (Fin 16)) :
    iprop((records X K ∗ levAts L lv ∗ owing c (owedTo (xp c) 3 (k :: ks)))
        ∗ due c (some (1, k)) ∗ before c (some (1, k)) ∗ (∃ f, oPts (xp c) (theirSet (xp c) k) f)
        ∗ token c (some (2, k)) false ∗ token (xp c) (some (3, k)) false)
      ⊢ run c (send2 (F := F) c k) (fun _ => iprop((records X K ∗ levAts L lv ∗ owing c (owedTo (xp c) 3 ks))
          ∗ due c (some (2, k)) ∗ closed c (some (1, k)))) := by
  unfold run send2
  simp only [Prog.lift, Prog.bind_op, Prog.bind_ret, Prog.pure_eq_ret]
  iintro ⟨⟨#HR, #Hlev, HO⟩, Hc, Hb, ⟨%fd, Hd⟩, Ht0, Ht1⟩
  iapply (wp_wait_part X K c (1, k) (q := rcv1 k) rfl (src := slot k) (dst := mineView c k)
    (hs := slot_exact k) (hd := mineView_exact c k) (credit_mine c k) (above_owed2 c (k :: ks)) (le_refl 2)) $$ [HO Hc Hb]
  · isplitr; · iexact HR
    isplitr; · iexact Hlev
    isplitl [Hc]; · iexact Hc
    isplitl [Hb] <;> iassumption
  iintro ⟨Hz, Hm, HO⟩
  iapply (wp_copy2 X K c k fd ks) $$ [Hm Hd HO Ht0 Ht1]
  · isplitr; · iexact HR
    isplitl [Hm]; · iapply (Entails.of_eq (pay_mine X c k)); iexact Hm
    isplitl [Hd]; · iexact Hd
    isplitl [HO]; · iexact HO
    isplitl [Ht0] <;> iassumption
  iintro ⟨Hc, HO⟩
  unfold run
  rw [wp_ret]; imodintro
  isplitl [HO]
  · isplitr; · iexact HR
    isplitr; · iexact Hlev
    iexact HO
  isplitl [Hc] <;> iassumption

theorem above_zero (n : ℕ) : Above n 0 := fun _ _ h => absurd h (Nat.lt_irrefl 0)

/-- Chunk `k` arrives from the `x` neighbour. -/
theorem wp_recv2 (c : Dev nD) (k : Fin 16) :
    iprop((records X K ∗ levAts L lv ∗ owing c 0) ∗ due c (some (3, k)) ∗ before c (some (3, k)))
      ⊢ run c (recv2 (F := F) c k) (fun _ => iprop((records X K ∗ levAts L lv ∗ owing c 0)
          ∗ closed c (some (3, k)) ∗ oPts c (theirSet c k) (out X c))) := by
  unfold run recv2
  simp only [Prog.lift]
  iintro ⟨⟨#HR, #Hlev, HO⟩, Hc, Hb⟩
  iapply (wp_wait_part X K c (3, k) (q := rcv2 k) rfl (src := slot k) (dst := theirView c k)
    (hs := slot_exact k) (hd := theirView_exact c k) (credit_their c k) (above_zero 3) (le_refl 3)) $$ [HO Hc Hb]
  · isplitr; · iexact HR
    isplitr; · iexact Hlev
    isplitl [Hc]; · iexact Hc
    isplitl [Hb] <;> iassumption
  iintro ⟨Hz, Hm, HO⟩
  unfold run
  rw [wp_ret]; imodintro
  isplitl [HO]
  · isplitr; · iexact HR
    isplitr; · iexact Hlev
    iexact HO
  isplitl [Hz]; · iexact Hz
  iapply (Entails.of_eq (pay_their X c k)); iexact Hm

/-- Both copies of chunk `k` that this device started have left. -/
theorem wp_drain (c : Dev nD) (k : Fin 16) :
    iprop((records X K ∗ levAts L lv ∗ owing c 0)
        ∗ (due c (some (0, k)) ∗ before c (some (0, k))) ∗ due c (some (2, k)) ∗ before c (some (2, k)))
      ⊢ run c (drain (F := F) c k) (fun _ => iprop((records X K ∗ levAts L lv ∗ owing c 0)
          ∗ (closed c (some (0, k)) ∗ ∃ f, sPts c (slotSet k) f)
          ∗ closed c (some (2, k)) ∗ oPts c (mineSet c k) (out X c))) := by
  unfold run drain
  simp only [Prog.lift, Prog.bind_op, Prog.bind_ret]
  iintro ⟨⟨#HR, #Hlev, HO⟩, ⟨Hc, Hb⟩, Hc2, Hb2⟩
  iapply (wp_wait_part X K c (0, k) (q := snd1 k) rfl (src := toView c k) (dst := slot k)
    (hs := toView_exact c k) (hd := slot_exact k) (credit_slot k) (above_zero 0) (le_refl 0)) $$ [HO Hc Hb]
  · isplitr; · iexact HR
    isplitr; · iexact Hlev
    isplitl [Hc]; · iexact Hc
    isplitl [Hb] <;> iassumption
  iintro ⟨Hz, Hs, HO⟩
  iapply (wp_wait_part X K c (2, k) (q := snd2 k) rfl (src := mineView c k) (dst := mineView c k)
    (hs := mineView_exact c k) (hd := mineView_exact c k) (credit_mine c k) (above_zero 0) (le_refl 0)) $$ [HO Hc2 Hb2]
  · isplitr; · iexact HR
    isplitr; · iexact Hlev
    isplitl [Hc2]; · iexact Hc2
    isplitl [Hb2] <;> iassumption
  iintro ⟨Hz2, Hm, HO⟩
  unfold run
  rw [wp_ret]; imodintro
  isplitl [HO]
  · isplitr; · iexact HR
    isplitr; · iexact Hlev
    iexact HO
  isplitl [Hz Hs]
  · isplitl [Hz]; · iexact Hz
    iapply (Entails.of_eq (pay_slot X c k)); iexact Hs
  isplitl [Hz2]; · iexact Hz2
  iapply (Entails.of_eq (pay_mine' X c k)); iexact Hm

end Cert.KernelIdeal.Proof

end
-- ==== Proof.Body.lean ====
/- The whole body on one device: the buffers cut into the parts the steps exchange, the phases one after another, and the
   parts put together again, the result then holding everything it should. -/
module

public import proofs.«01_k».proof.Proof.Phases
public import Idealize.ShloMosaic.Lib.Ring

@[expose] public section

set_option maxRecDepth 16384

noncomputable section

namespace Cert.KernelIdeal.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

/-! ## Cutting and joining the buffers -/

section Cut
variable (c : Dev nD)

omit [FloatOps F] in
/-- A part of the result made of disjoint pieces is those pieces; -/
theorem oPts_pieces (J : Fin 16 → Finset S4096x512.Idx) (h : ∀ k k', k ≠ k' → Disjoint (J k) (J k'))
    (f : S4096x512.Idx → Elt F .bf16) : (oPts c (Finset.univ.biUnion J) f : sProp 𝕄)
    = bigSep Finset.univ fun k => oPts c (J k) f :=
  pointsTo_biUnion (ℓ := (c : Thread nD τ).loc cc0_stg1_0) Finset.univ J fun k _ k' _ => h k k'

omit [FloatOps F] in
/-- of two pieces, both. -/
theorem oPts_two {I J : Finset S4096x512.Idx} (h : Disjoint I J) (f : S4096x512.Idx → Elt F .bf16) :
    (oPts c (I ∪ J) f : sProp 𝕄) = iprop(oPts c I f ∗ oPts c J f) := by
  have hu : (oPts c (I ∪ J) f : sProp 𝕄) ⊣⊢ iprop(oPts c I f ∗ oPts c J f) :=
    pointsTo_union (ℓ := (c : Thread nD τ).loc cc0_stg1_0) h
  exact BI.equiv_iff.mp ⟨hu.1, hu.2⟩

omit [FloatOps F] in
theorem oPts_some (S : Finset S4096x512.Idx) (f : S4096x512.Idx → Elt F .bf16) :
    (oPts c S f : sProp 𝕄) ⊢ iprop(∃ f, oPts c S f) := by
  iintro H; iexists f; iexact H
omit [FloatOps F] in
theorem sPts_some (S : Finset S16x64x512.Idx) (f : S16x64x512.Idx → Elt F .bf16) :
    (sPts c S f : sProp 𝕄) ⊢ iprop(∃ f, sPts c S f) := by
  iintro H; iexists f; iexact H

omit [FloatOps F] in
/-- The result's buffer is the half kept, the chunks received from the `y` neighbour and those from the `x` neighbour. -/
theorem result_cut (f : S4096x512.Idx → Elt F .bf16) : (oPts c Finset.univ f : sProp 𝕄)
    = iprop(oPts c (halfSet c) f ∗ (bigSep Finset.univ fun k => oPts c (mineSet c k) f)
        ∗ bigSep Finset.univ fun k => oPts c (theirSet c k) f) := by
  rw [← pieces_cover c, oPts_two c (half_disjoint c), oPts_two c (received_disjoint c), mineAll, theirAll,
    oPts_pieces c _ fun k k' => mineSet_disjoint c, oPts_pieces c _ fun k k' => theirSet_disjoint c]

omit [FloatOps F] in
/-- The sending scratch is its sixteen slots. -/
theorem scratch_cut (f : S16x64x512.Idx → Elt F .bf16) : (sPts c Finset.univ f : sProp 𝕄)
    ⊢ bigSep Finset.univ fun k => iprop(∃ f, sPts c (slotSet k) f) := by
  have h : (sPts c (Finset.univ.biUnion slotSet) f : sProp 𝕄) = bigSep Finset.univ fun k => sPts c (slotSet k) f :=
    pointsTo_biUnion (ℓ := (c : Thread nD τ).loc cc0_scratch0) Finset.univ slotSet fun k _ k' _ => slotSet_disjoint
  rw [← slots_cover, h]
  exact bigSep_mono fun k _ => sPts_some c _ f

omit [FloatOps F] in
theorem scratch_join : (bigSep Finset.univ fun k => iprop(∃ f, sPts c (slotSet k) f) : sProp 𝕄)
    ⊢ iprop(∃ f, sPts c Finset.univ f) := by
  have hj (f : S16x64x512.Idx → Elt F .bf16) : (bigSep Finset.univ fun k => iprop(∃ f, sPts c (slotSet k) f) : sProp 𝕄)
      ⊢ iprop(∃ f, sPts c Finset.univ f) :=
    Ring.pointsTo_sub_blocks_join_exists (ℓ := (c : Thread nD τ).loc cc0_scratch0) slotSet
      (fun k k' h => slotSet_disjoint h) Finset.univ slots_cover f
  have h0 := bigSep_univ_at (fun k => (iprop(∃ f, sPts c (slotSet k) f) : sProp 𝕄)) 0
  refine (Entails.of_eq h0).trans ?_
  iintro ⟨⟨%f, Hf⟩, Hr⟩
  iapply (hj f)
  iapply (Entails.of_eq h0.symm)
  isplitl [Hf]
  · iexists f; iexact Hf
  iexact Hr

omit [FloatOps F] in
/-- What a device hands its `y` neighbour as it signals it: the rows that neighbour writes. -/
theorem give_y (X : Operands F) (f : S4096x512.Idx → Elt F .bf16) :
    (bigSep Finset.univ fun k => oPts c (mineSet c k) f : sProp 𝕄) ⊢ payOf X (yp c) none false := by
  show _ ⊢ bigSep Finset.univ fun k : Fin 16 => iprop(∃ f, oPts (yp (yp c)) (mineSet (yp (yp c)) k) f)
  rw [yp_yp]
  exact bigSep_mono fun k _ => oPts_some c _ f

omit [FloatOps F] in
/-- What it hands its `x` neighbour. -/
theorem give_x (X : Operands F) (f : S4096x512.Idx → Elt F .bf16) :
    (bigSep Finset.univ fun k => oPts c (theirSet c k) f : sProp 𝕄) ⊢ payOf X (xp c) none true := by
  show _ ⊢ bigSep Finset.univ fun k : Fin 16 => iprop(∃ f, oPts (xp (xp c)) (theirSet (xp (xp c)) k) f)
  rw [xp_xp]
  exact bigSep_mono fun k _ => oPts_some c _ f

end Cut

/-! ## Each phase, over all the chunks -/

section Whole
variable (X : Operands F) (K : Dev nD × Part → ℕ) (c : Dev nD)

theorem wp_sends1 :
    iprop((records X K ∗ xPts c (X c) ∗ owing c (owed1 c chunks))
        ∗ (bigSep Finset.univ fun k => iprop(∃ f, sPts c (slotSet k) f)) ∗ payOf X c none false
        ∗ (bigSep Finset.univ fun k => token c (some (0, k)) false)
        ∗ bigSep Finset.univ fun k => token (yp c) (some (1, k)) false)
      ⊢ run c (each (send1 c) chunks) (fun _ => iprop((records X K ∗ xPts c (X c) ∗ owing c (owedTo (xp c) 3 chunks))
          ∗ bigSep Finset.univ fun k => due c (some (0, k)))) := by
  have h := wp_chunks c (send1 c) (fun ks => iprop(records X K ∗ xPts c (X c) ∗ owing c (owed1 c ks))) _ _
    (wp_send1 X K c)
  rw [show owed1 c [] = owedTo (xp c) 3 chunks from add_zero _] at h
  rw [show payOf X c none false
    = (bigSep Finset.univ fun k : Fin 16 => iprop(∃ f, oPts (yp c) (mineSet (yp c) k) f)) from rfl]
  rw [← bigSep_sep', ← bigSep_sep', ← bigSep_sep']
  exact h

theorem wp_sends2 :
    iprop((records X K ∗ levAts L lv ∗ owing c (owedTo (xp c) 3 chunks))
        ∗ (bigSep Finset.univ fun k => due c (some (1, k))) ∗ (bigSep Finset.univ fun k => before c (some (1, k)))
        ∗ payOf X c none true
        ∗ (bigSep Finset.univ fun k => token c (some (2, k)) false)
        ∗ bigSep Finset.univ fun k => token (xp c) (some (3, k)) false)
      ⊢ run c (each (send2 c) chunks) (fun _ => iprop((records X K ∗ levAts L lv ∗ owing c 0)
          ∗ (bigSep Finset.univ fun k => due c (some (2, k)))
          ∗ bigSep Finset.univ fun k => closed c (some (1, k)))) := by
  have h := wp_chunks c (send2 c) (fun ks => iprop(records X K ∗ levAts L lv ∗ owing c (owedTo (xp c) 3 ks))) _ _
    (wp_send2 X K c)
  rw [show owedTo (xp c) 3 [] = 0 from rfl] at h
  rw [show payOf X c none true
    = (bigSep Finset.univ fun k : Fin 16 => iprop(∃ f, oPts (xp c) (theirSet (xp c) k) f)) from rfl]
  rw [← bigSep_sep', ← bigSep_sep', ← bigSep_sep', ← bigSep_sep', ← bigSep_sep']
  exact h

theorem wp_recvs2 :
    iprop((records X K ∗ levAts L lv ∗ owing c 0)
        ∗ (bigSep Finset.univ fun k => due c (some (3, k))) ∗ bigSep Finset.univ fun k => before c (some (3, k)))
      ⊢ run c (each (recv2 c) chunks) (fun _ => iprop((records X K ∗ levAts L lv ∗ owing c 0)
          ∗ (bigSep Finset.univ fun k => closed c (some (3, k)))
          ∗ bigSep Finset.univ fun k => oPts c (theirSet c k) (out X c))) := by
  have h := wp_chunks c (recv2 c) (fun _ => iprop(records X K ∗ levAts L lv ∗ owing c 0)) _ _
    (fun k _ => wp_recv2 X K c k)
  rw [← bigSep_sep', ← bigSep_sep']
  exact h

theorem wp_drains :
    iprop((records X K ∗ levAts L lv ∗ owing c 0)
        ∗ ((bigSep Finset.univ fun k => due c (some (0, k))) ∗ bigSep Finset.univ fun k => before c (some (0, k)))
        ∗ (bigSep Finset.univ fun k => due c (some (2, k))) ∗ bigSep Finset.univ fun k => before c (some (2, k)))
      ⊢ run c (each (drain c) chunks) (fun _ => iprop((records X K ∗ levAts L lv ∗ owing c 0)
          ∗ ((bigSep Finset.univ fun k => closed c (some (0, k)))
            ∗ bigSep Finset.univ fun k => iprop(∃ f, sPts c (slotSet k) f))
          ∗ (bigSep Finset.univ fun k => closed c (some (2, k)))
          ∗ bigSep Finset.univ fun k => oPts c (mineSet c k) (out X c))) := by
  have h := wp_chunks c (drain c) (fun _ => iprop(records X K ∗ levAts L lv ∗ owing c 0)) _ _
    (fun k _ => wp_drain X K c k)
  rw [← bigSep_sep', ← bigSep_sep', ← bigSep_sep', ← bigSep_sep', ← bigSep_sep', ← bigSep_sep']
  exact h

/-! ## The body -/

/-- What device `c` pays with: a payment into each neighbour's barrier, and into both semaphores of every copy it starts. -/
def payments : sProp 𝕄 :=
  iprop(token (yp c) none false ∗ token (xp c) none true
    ∗ (bigSep Finset.univ fun k => token c (some (0, k)) false)
    ∗ (bigSep Finset.univ fun k => token (yp c) (some (1, k)) false)
    ∗ (bigSep Finset.univ fun k => token c (some (2, k)) false)
    ∗ bigSep Finset.univ fun k => token (xp c) (some (3, k)) false)

/-- What others owe device `c`. -/
def dues : sProp 𝕄 :=
  iprop(due c none ∗ (bigSep Finset.univ fun k => due c (some (1, k))) ∗ bigSep Finset.univ fun k => due c (some (3, k)))

theorem run_steps (Q : PUnit → sProp 𝕄) : run c (steps (F := F)) Q
    = run c (enter c) fun _ => run c (each (send1 c) chunks) fun _ => run c (keep c) fun _ =>
        run c (each (send2 c) chunks) fun _ => run c (each (recv2 c) chunks) fun _ => run c (each (drain c) chunks) Q := by
  unfold steps run
  simp only [Prog.lift, Prog.bind_op, Prog.bind_ret, wp_deviceId, wp_bind]

/-- The body on device `c` leaves its result complete, its buffers whole and its semaphores at zero. -/
theorem wp_steps :
    iprop(records X K ∗ levAts L lv ∗ (bigSep Finset.univ fun i : Part => before c i) ∗ payments c ∗ dues c
        ∗ owing c (owed0 c) ∗ xPts c (X c) ∗ (∃ f, sPts c Finset.univ f) ∗ ∃ f, oPts c Finset.univ f)
      ⊢ run c (steps (F := F)) (fun _ => iprop(owing c 0 ∗ xPts c (X c) ∗ oPts c Finset.univ (out X c)
          ∗ (∃ f, sPts c Finset.univ f) ∗ bigSep Finset.univ fun i : Part => closed c i)) := by
  rw [run_steps, bigSep_part (fun i => before c i), bigSep_part (fun i => closed c i)]
  unfold payments dues
  iintro ⟨#HR, #Hlev, ⟨HbN, Hb0, Hb1, Hb2, Hb3⟩, ⟨HtY, HtX, Ht0, Ht1, Ht2, Ht3⟩, ⟨HdN, Hd1, Hd3⟩, HO, Hx, ⟨%fs, Hs⟩, ⟨%fo, Ho⟩⟩
  ihave Ho' := (Entails.of_eq (result_cut c fo)) $$ Ho
  icases Ho' with ⟨Hhalf, Hmine, Htheir⟩
  ihave Hs := (scratch_cut c fs) $$ Hs
  ihave Hmine := (give_y c X fo) $$ Hmine
  ihave Htheir := (give_x c X fo) $$ Htheir
  -- the handshake
  ihave Hw := (wp_enter X K c) $$ [HdN HbN HO HtY HtX Hmine Htheir]
  · isplitr; · iexact HR
    isplitr; · iexact Hlev
    isplitl [HdN]; · iexact HdN
    isplitl [HbN]; · iexact HbN
    isplitl [HO]; · iexact HO
    isplitl [HtY]; · iexact HtY
    isplitl [HtX]; · iexact HtX
    isplitl [Hmine] <;> iassumption
  iapply (wp_wand frame (wpE (defs₀ (F := F)) 𝒱₀ (c : Thread nD τ) none) Set.univ) $$ Hw
  iintro %_ ⟨HcN, HO, Hy, Hxx⟩
  -- the first phase's copies
  ihave Hw := (wp_sends1 X K c) $$ [Hx HO Hs Hy Ht0 Ht1]
  · isplitl [Hx HO]
    · isplitr; · iexact HR
      isplitl [Hx] <;> iassumption
    isplitl [Hs]; · iexact Hs
    isplitl [Hy]; · iexact Hy
    isplitl [Ht0] <;> iassumption
  iapply (wp_wand frame (wpE (defs₀ (F := F)) 𝒱₀ (c : Thread nD τ) none) Set.univ) $$ Hw
  iintro %_ ⟨⟨-, Hx, HO⟩, Hd0⟩
  -- the half that stays
  ihave Hw := (wp_keep X c fo) $$ [Hx Hhalf]
  · isplitl [Hx] <;> iassumption
  iapply (wp_wand frame (wpE (defs₀ (F := F)) 𝒱₀ (c : Thread nD τ) none) Set.univ) $$ Hw
  iintro %_ ⟨Hx, Hhalf⟩
  -- the second phase's copies
  ihave Hw := (wp_sends2 X K c) $$ [HO Hd1 Hb1 Hxx Ht2 Ht3]
  · isplitl [HO]
    · isplitr; · iexact HR
      isplitr; · iexact Hlev
      iexact HO
    isplitl [Hd1]; · iexact Hd1
    isplitl [Hb1]; · iexact Hb1
    isplitl [Hxx]; · iexact Hxx
    isplitl [Ht2] <;> iassumption
  iapply (wp_wand frame (wpE (defs₀ (F := F)) 𝒱₀ (c : Thread nD τ) none) Set.univ) $$ Hw
  iintro %_ ⟨⟨-, -, HO⟩, Hd2, Hc1⟩
  -- their arrivals
  ihave Hw := (wp_recvs2 X K c) $$ [HO Hd3 Hb3]
  · isplitl [HO]
    · isplitr; · iexact HR
      isplitr; · iexact Hlev
      iexact HO
    isplitl [Hd3] <;> iassumption
  iapply (wp_wand frame (wpE (defs₀ (F := F)) 𝒱₀ (c : Thread nD τ) none) Set.univ) $$ Hw
  iintro %_ ⟨⟨-, -, HO⟩, Hc3, Htheir⟩
  -- the copies' sources
  ihave Hw := (wp_drains X K c) $$ [HO Hd0 Hb0 Hd2 Hb2]
  · isplitl [HO]
    · isplitr; · iexact HR
      isplitr; · iexact Hlev
      iexact HO
    isplitl [Hd0 Hb0]
    · isplitl [Hd0] <;> iassumption
    isplitl [Hd2] <;> iassumption
  iapply (wp_wand frame (wpE (defs₀ (F := F)) 𝒱₀ (c : Thread nD τ) none) Set.univ) $$ Hw
  iintro %_ ⟨⟨-, -, HO⟩, ⟨Hc0, Hs⟩, Hc2, Hmine⟩
  ihave Hs := (scratch_join c) $$ Hs
  isplitl [HO]; · iexact HO
  isplitl [Hx]; · iexact Hx
  isplitl [Hhalf Hmine Htheir]
  · iapply (Entails.of_eq (result_cut c (out X c)).symm)
    isplitl [Hhalf]; · iexact Hhalf
    isplitl [Hmine] <;> iassumption
  isplitl [Hs]; · iexact Hs
  isplitl [HcN]; · iexact HcN
  isplitl [Hc0]; · iexact Hc0
  isplitl [Hc1]; · iexact Hc1
  isplitl [Hc2] <;> iassumption

end Whole

end Cert.KernelIdeal.Proof

end
-- ==== Proof.Ghost.lean ====
/- What the launch deals the devices: the cells' round states and the tokens, brought to the devices that pay with them,
   the semaphores put behind the cells' invariants, and the credit of what others owe. -/
module

public import proofs.«01_k».proof.Proof.Body

@[expose] public section

set_option maxRecDepth 16384

noncomputable section

namespace Cert.KernelIdeal.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (X : Operands F)

omit [FloatOps F] in
/-- A separating product over optional indices. -/
theorem bigSep_opt {I : Type} [Fintype I] [DecidableEq I] (Φ : Option I → sProp 𝕄) :
    bigSep Finset.univ Φ = iprop(Φ none ∗ bigSep Finset.univ fun i => Φ (some i)) := by
  rw [show (Finset.univ : Finset (Option I)) = insert none (Finset.univ.map Function.Embedding.some) from by
      ext i; cases i <;> simp,
    bigSep_insert (by simp), bigSep_map]
  rfl

/-! ## The cells and the tokens -/

abbrev cellAt (ci : Dev nD × Part) : GSem nD τ sig := kcell ci.1 ci.2
theorem cellAt_injective : Function.Injective cellAt := fun _ _ h =>
  Prod.ext (kcell_inj.mp h).1 (kcell_inj.mp h).2
def allCells : Finset (GSem nD τ sig) := Finset.univ.map ⟨cellAt, cellAt_injective⟩

/-- One token for each payment: the second one into a barrier (`none`), and the first or only one into each cell. -/
def tokenAt : Dev nD × Option Part → GSem nD τ sig × ℕ × Bool
  | (c, none) => (kcell c none, 0, true)
  | (c, some i) => (kcell c i, 0, false)
theorem tokenAt_injective : Function.Injective tokenAt := by
  rintro ⟨c, _ | i⟩ ⟨c', _ | i'⟩ h
  · rw [(kcell_inj.mp (congrArg Prod.fst h)).1]
  · exact absurd (show true = false from congrArg (fun x => x.2.2) h) (by decide)
  · exact absurd (show false = true from congrArg (fun x => x.2.2) h) (by decide)
  · obtain ⟨h1, h2⟩ := kcell_inj.mp (congrArg Prod.fst h)
    rw [h1, h2]
def allTokens : Finset (GSem nD τ sig × ℕ × Bool) := Finset.univ.map ⟨tokenAt, tokenAt_injective⟩

/-- The ghost state at launch: the pipeline's own and the cells'. -/
def u₀ : UU :=
  (initOf (Pipeline.cells cfgs cellOf_inj) (Pipeline.launchToks cfgs cellOf_inj), initOf allCells allTokens)

/-- The tokens of the payments into device `c`'s cells. -/
def tokensOf (c : Dev nD) : sProp 𝕄 :=
  iprop(token c none true ∗ bigSep Finset.univ fun i : Part => token c i false)

/-- What the launch deals device `c` of the cells' ghost state, and what the devices make of it together. -/
def dealt (c : Dev nD) : sProp 𝕄 :=
  iprop((bigSep Finset.univ fun i : Part => roundState ER (Rd X) (kcell c i) 0)
    ∗ (bigSep Finset.univ fun i : Part => iprop(before c i ∗ reached ER (kcell c i) 0)) ∗ tokensOf c)
def ready (c : Dev nD) : sProp 𝕄 :=
  iprop(∃ K, records X K ∗ (bigSep Finset.univ fun i : Part => before c i) ∗ payments c)

omit [FloatOps F] in
theorem over_cells (Φ : GSem nD τ sig → sProp 𝕄) : bigSep allCells Φ
    = bigSep Finset.univ fun c : Dev nD => bigSep Finset.univ fun i : Part => Φ (kcell c i) := by
  unfold allCells; rw [bigSep_map, bigSep_univ_prod]; rfl

omit [FloatOps F] in
theorem over_tokens : bigSep allTokens (fun x => (dutyTok ER x.1 x.2.1 x.2.2 : sProp 𝕄))
    = bigSep Finset.univ fun c : Dev nD => tokensOf c := by
  unfold allTokens
  rw [bigSep_map, bigSep_univ_prod]
  exact bigSep_congr fun c _ => by unfold tokensOf; rw [bigSep_opt]; rfl

omit [FloatOps F] in
theorem fund_cells : BI.own (ER (initOf allCells allTokens)) ⊢ (|==> bigSep Finset.univ (dealt X) : sProp 𝕄) := by
  iintro H
  imod (Rounds.fund ER (Rd X) allCells allTokens) $$ H with ⟨Hst, Hr, Hat, Htok⟩
  imodintro
  ihave Hst' := (Entails.of_eq (over_cells fun g => roundState ER (Rd X) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_tokens) $$ Htok
  unfold dealt
  simp only [bigSep_sep']
  isplitl [Hst']; · iexact Hst'
  isplitl [Hat' Hr']
  · isplitl [Hat']; · iexact Hat'
    iexact Hr'
  iexact Htok'

/-! ## The semaphores -/

/-- The kernel's own semaphores: all but the barrier. -/
abbrev osem (jk : Fin 4 × Fin 16) : SemLoc sig := ksem (some jk)

theorem osem_facts : Pipeline.OwnSemFacts cfg0.spec osem where
  isScoped := by decide +kernel
  inj := fun _ _ h => Option.some.inj (ksem_injective h)
  disj := by decide +kernel

abbrev own0 (c : Dev nD) : sProp 𝕄 :=
  Pipeline.ownSems0 (Ix := Unit) (Name := ℕ) (U := UU) (Lvl := ℕ) (Val := Elt F) (τ := τ) osem c

omit [FloatOps F] in
/-- The barrier is the one semaphore that lives outside the kernel's run. -/
theorem unscoped_eq (c : Dev nD) : (unscopedSems0 c : sProp 𝕄) = closed c none := by
  unfold unscopedSems0; rw [bigSep_eq_bigSepL_of_eq [SemLoc.reg bar] (by decide) (by decide)]; rfl

omit [FloatOps F] in
theorem sems_eq (c : Dev nD) : (bigSep Finset.univ fun i : Part => closed c i : sProp 𝕄)
    = iprop(unscopedSems0 c ∗ own0 c) := by
  rw [bigSep_opt, unscoped_eq]; rfl

omit [FloatOps F] in
/-- Each cell's semaphore and round state go behind an invariant. -/
theorem alloc (c : Dev nD) : iprop(own0 c ∗ unscopedSems0 c ∗ dealt X c)
    ⊢ |={Set.univ}=> iprop((bigSep Finset.univ fun i : Part => iprop(∃ κ : ℕ, cellInv ER (Rd X) κ (kcell c i)))
        ∗ (bigSep Finset.univ fun i : Part => iprop(before c i ∗ reached ER (kcell c i) 0)) ∗ tokensOf c) := by
  have h : iprop((bigSep Finset.univ fun i : Part => closed c i)
        ∗ bigSep Finset.univ fun i : Part => roundState ER (Rd X) (kcell c i) 0)
      ⊢ (|={Set.univ}=> bigSep Finset.univ fun i : Part => iprop(∃ κ : ℕ, cellInv ER (Rd X) κ (kcell c i)) : sProp 𝕄) := by
    rw [← bigSep_sep']
    exact (bigSep_mono fun i _ => (Rounds.body_intro ER (Rd X) (kcell c i)).trans inv_alloc).trans (bigSep_fupd _ _)
  unfold dealt
  iintro ⟨Hos, Hus, Hst, Hat, Htok⟩
  imod h $$ [Hos Hus Hst] with Hinv
  · isplitl [Hos Hus]
    · rw [sems_eq]
      isplitl [Hus]; · iexact Hus
      iexact Hos
    iexact Hst
  imodintro
  isplitl [Hinv]; · iexact Hinv
  isplitl [Hat]; · iexact Hat
  iexact Htok

omit [FloatOps F] in
/-- The tokens go to the devices that pay with them: of a cell written by a neighbour, to that neighbour. -/
theorem deal_tokens : (bigSep Finset.univ fun c : Dev nD => (tokensOf c : sProp 𝕄))
    ⊢ bigSep Finset.univ fun c : Dev nD => payments c := by
  have h (c : Dev nD) : (tokensOf c : sProp 𝕄) = iprop(token c none true ∗ token c none false
      ∗ (bigSep Finset.univ fun k => token c (some (0, k)) false) ∗ (bigSep Finset.univ fun k => token c (some (1, k)) false)
      ∗ (bigSep Finset.univ fun k => token c (some (2, k)) false) ∗ bigSep Finset.univ fun k => token c (some (3, k)) false) := by
    unfold tokensOf; rw [bigSep_part]
  simp only [h]
  unfold payments
  rw [bigSep_sep', bigSep_sep', bigSep_sep', bigSep_sep', bigSep_sep', bigSep_sep', bigSep_sep', bigSep_sep', bigSep_sep',
    bigSep_sep',
    bigSep_univ_equiv xFlip (fun c : Dev nD => (token c none true : sProp 𝕄)),
    bigSep_univ_equiv yFlip (fun c : Dev nD => (token c none false : sProp 𝕄)),
    bigSep_univ_equiv yFlip (fun c : Dev nD => (bigSep Finset.univ fun k => token c (some (1, k)) false : sProp 𝕄)),
    bigSep_univ_equiv xFlip (fun c : Dev nD => (bigSep Finset.univ fun k => token c (some (3, k)) false : sProp 𝕄))]
  iintro ⟨HX, HY, H0, H1, H2, H3⟩
  isplitl [HY]; · iexact HY
  isplitl [HX]; · iexact HX
  isplitl [H0]; · iexact H0
  isplitl [H1]; · iexact H1
  isplitl [H2]; · iexact H2
  iexact H3

omit [FloatOps F] in
/-- What is known for good goes to every factor. -/
theorem bigSep_keep {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by
    rw [← bigSep_sep']; exact bigSep_mono fun c _ => h c)

omit [FloatOps F] in
theorem collect :
    (bigSep Finset.univ fun c : Dev nD => iprop((bigSep Finset.univ fun i : Part => iprop(∃ κ : ℕ, cellInv ER (Rd X) κ (kcell c i)))
        ∗ (bigSep Finset.univ fun i : Part => iprop(before c i ∗ reached ER (kcell c i) 0)) ∗ tokensOf c) : sProp 𝕄)
      ⊢ bigSep Finset.univ (ready X) := by
  have hr (c : Dev nD) : (bigSep Finset.univ fun i : Part => iprop(before c i ∗ reached ER (kcell c i) 0) : sProp 𝕄)
      = iprop((bigSep Finset.univ fun i : Part => before c i) ∗ bigSep Finset.univ fun i : Part => reached ER (kcell c i) 0) :=
    bigSep_sep' _ _ _
  simp only [hr]
  rw [bigSep_sep', bigSep_sep', bigSep_sep',
    ← bigSep_univ_prod (fun ci : Dev nD × Part => (iprop(∃ κ : ℕ, cellInv ER (Rd X) κ (kcell ci.1 ci.2)) : sProp 𝕄)),
    ← bigSep_univ_prod (fun ci : Dev nD × Part => (reached ER (kcell ci.1 ci.2) 0 : sProp 𝕄))]
  iintro ⟨HI, ⟨Hat, #HR⟩, Htok⟩
  ihave HK := (BI.bigSep_exists_pi Finset.univ (fun (ci : Dev nD × Part) (κ : ℕ) =>
    (cellInv ER (Rd X) κ (kcell ci.1 ci.2) : sProp 𝕄))) $$ HI
  icases HK with ⟨%K, #HI⟩
  ihave Hpay := deal_tokens $$ Htok
  iapply (bigSep_keep (R := records X K)
    (Φ := fun c => iprop((bigSep Finset.univ fun i : Part => before c i) ∗ payments c)) fun c => by
      unfold ready; iintro H; iexists K; iexact H)
  isplitr
  · unfold records; isplitl; · iexact HI
    iexact HR
  · rw [bigSep_sep']
    isplitl [Hat] <;> iassumption

omit [FloatOps F] in
/-- All the devices' semaphores and ghost state at once. -/
theorem set_up : (bigSep Finset.univ fun c => iprop(own0 c ∗ unscopedSems0 c ∗ dealt X c) : sProp 𝕄)
    ⊢ |={Set.univ}=> bigSep Finset.univ (ready X) :=
  ((bigSep_mono fun c _ => alloc X c).trans (bigSep_fupd _ _)).trans (BI.fupd_mono (collect X))

/-! ## The credit -/

omit [FloatOps F] in
/-- Every device owing a neighbour's cells `j` for some chunks, each device has the credit of its own cells `j`. -/
theorem credit_chunks (j : Fin 4) (f : Dev nD → Dev nD) (hf : ∀ c, f (f c) = c) (c : Dev nD) :
    ∀ ks : List (Fin 16), ks.Nodup → (Pipeline.launchCred (fun d => owedTo (f d) j ks) c : sProp 𝕄)
      ⊢ bigSep ks.toFinset fun k => due c (some (j, k))
  | [], _ => by rw [List.toFinset_nil, bigSep_empty]; iintro -; iempintro
  | k :: ks, hk => by
    have hn : k ∉ ks.toFinset := fun hm => (List.nodup_cons.mp hk).1 (List.mem_toFinset.mp hm)
    rw [List.toFinset_cons, bigSep_take hn]
    show (Pipeline.launchCred (fun d => owedTo (f d) j ks + tallyAt (kcell (f d) (some (j, k))) () N) c : sProp 𝕄) ⊢ _
    rw [Pipeline.launchCred_add]
    iintro ⟨H, Hk⟩
    ihave Hk := (show _ ⊢ (due c (some (j, k)) : sProp 𝕄) from
      Pipeline.launchCred_tallyAt (ksem (some (j, k))) f f hf hf () N c) $$ Hk
    ihave H := (credit_chunks j f hf c ks (List.nodup_cons.mp hk).2) $$ H
    isplitl [Hk]; · iexact Hk
    iexact H

omit [FloatOps F] in
theorem credit_all (j : Fin 4) (f : Dev nD → Dev nD) (hf : ∀ c, f (f c) = c) (c : Dev nD) :
    (Pipeline.launchCred (fun d => owedTo (f d) j chunks) c : sProp 𝕄)
      ⊢ bigSep Finset.univ fun k => due c (some (j, k)) := by
  have h := credit_chunks (F := F) j f hf c chunks chunks_nodup
  rwa [chunks_univ] at h

omit [FloatOps F] in
theorem credit_dues (c : Dev nD) : (Pipeline.launchCred owed0 c : sProp 𝕄) ⊢ dues c := by
  have h : (due c none : sProp 𝕄)
      = iprop(cred (tallyAt (kcell c none) () 1) ∗ cred (tallyAt (kcell c none) () 1)) := by
    unfold due
    rw [show tallyAt (kcell c none) () (expectOf none) = (tallyAt (kcell c none) () 1 + tallyAt (kcell c none) () 1
      : CellTallies nD τ sig Unit) from (tallyAt_add _ _ 1 1).symm]
    exact BI.equiv_iff.mp ⟨(cred_add _ _).1, (cred_add _ _).2⟩
  show (Pipeline.launchCred (fun d => (owedTo (xp d) 3 chunks + owedTo (yp d) 1 chunks)
    + tallyAt (kcell (xp d) none) () 1 + tallyAt (kcell (yp d) none) () 1) c : sProp 𝕄) ⊢ _
  rw [Pipeline.launchCred_add, Pipeline.launchCred_add, Pipeline.launchCred_add]
  unfold dues
  rw [h]
  iintro ⟨⟨⟨H3, H1⟩, HX⟩, HY⟩
  ihave H3 := (credit_all 3 xp xp_xp c) $$ H3
  ihave H1 := (credit_all 1 yp yp_yp c) $$ H1
  ihave HX := (Pipeline.launchCred_tallyAt (ksem none) xp xp xp_xp xp_xp () 1 c) $$ HX
  ihave HY := (Pipeline.launchCred_tallyAt (ksem none) yp yp yp_yp yp_yp () 1 c) $$ HY
  isplitl [HX HY]
  · isplitl [HX]; · iexact HX
    iexact HY
  isplitl [H1]; · iexact H1
  iexact H3

end Cert.KernelIdeal.Proof

end
-- ==== Proof.Run.lean ====
/- The run of the whole program on all the devices: every execution ends, each device's result holding `out` of the
   operands, the operands unchanged and every semaphore at zero. -/
module

public import proofs.«01_k».proof.Proof.Ghost
public import Idealize.ShloMosaic.Lib.Pipeline.ValueKit
public import Idealize.ShloMosaic.Lib.Pipeline.CollectiveSegs

@[expose] public section

set_option maxRecDepth 16384

noncomputable section

namespace Cert.KernelIdeal.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The state at launch, and the devices' operands in it. -/
def s₀ : MemSt nD τ sig (Elt F) := ⟨m, fun _ => 0, ρ⟩
def ops : Operands F := fun c => m ((c : Thread nD τ).loc main_arg0)

/-! ## The kernel's one region -/

/-- What device `c`'s body starts from, and what is true of its own buffers and semaphores around it. -/
def start (c : Dev nD) : sProp 𝕄 := iprop(ready (ops m) c ∗ dues c ∗ levAts L lv)
def entry (c : Dev nD) : sProp 𝕄 := iprop(start m c ∗ ∃ f, sPts c Finset.univ f)
def exit (c : Dev nD) : sProp 𝕄 :=
  iprop((∃ f, sPts c Finset.univ f) ∗ bigSep Finset.univ fun i : Part => closed c i)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ops m c
    | ⟨1, _⟩ => out (ops m) c
  Φ t := match t with
    | ⟨0, _⟩ => entry m c
    | ⟨_ + 1, _⟩ => exit c
  q _ := fullShare
  owed t := match t with
    | ⟨0, _⟩ => owed0 c
    | ⟨_ + 1, _⟩ => 0

omit [FloatOps F] in
theorem over_windows (Φ : Fin cfg0.W → sProp 𝕄) : bigSep Finset.univ Φ = iprop(Φ (0 : Fin 2) ∗ Φ (1 : Fin 2)) :=
  bigSep_W0 Φ

/-- Device `c`'s buffer `b` holds `f`. -/
abbrev holds (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

omit [FloatOps F] in
theorem owns_eq (c : Dev nD) (b : Ref sig .tc) (f : b.ty.Contents (Elt F)) :
    (owns (Ix := Unit) (Name := ℕ) (U := UU) (Lvl := ℕ) (c : Thread nD τ) (Memref.whole b) fullShare f : sProp 𝕄)
      = holds c b f := by
  unfold owns; simp only [Memref.view_whole, View.read_whole, View.set_whole]

/-- What the body finds in the operand's staging buffer. -/
theorem before_operand (c : Dev nD) (d) : (dats m ρ 0 c).before (0 : Fin 2) t0_0 d = ops m c := by
  unfold Dat.before
  rw [if_pos (show (cfg0.win (0 : Fin 2)).fetch t0_0 = true from rfl)]
  funext i
  show (win0_0.blk t0_0).view.read (Elt F) (m ((c : Thread nD τ).loc main_arg0)) i = m ((c : Thread nD τ).loc main_arg0) i
  blk_simp
  refine congrArg (m ((c : Thread nD τ).loc main_arg0)) (funext fun a => Fin.ext ?_)
  exact Window.rect_emb_val_of_index_zero win0_0 t0_0 a (by revert a; decide) i

/-- The body's part of the region. -/
theorem body_obligation (c : Dev nD) :
    BodyObligation (dats (F := F) m ρ 0 c) (defs₀ (F := F)) 𝒱₀ () Set.univ := fun t => by
  obtain rfl := fin_N0 t
  rw [over_windows, over_windows]
  simp only [owns_eq]
  show iprop(entry m c ∗ (dats m ρ 0 c).owesAt () (Fin.castSucc t0_0)
      ∗ (∃ d, holds c cc0_stg0_0 ((dats m ρ 0 c).before (0 : Fin 2) t0_0 d))
      ∗ (∃ d, holds c cc0_stg1_0 ((dats m ρ 0 c).before (1 : Fin 2) t0_0 d)))
    ⊢ run c (bodyAt0 (F := F) t0_0) (fun _ => iprop(exit c ∗ (dats m ρ 0 c).owesAt () (Fin.succ t0_0)
      ∗ holds c cc0_stg0_0 (ops m c) ∗ holds c cc0_stg1_0 (out (ops m) c)))
  rw [body_eq]
  unfold entry exit start ready Dat.owesAt Pipeline.owesWithin
  rw [show (dats m ρ 0 c).owed (Fin.castSucc t0_0) = owed0 c from rfl,
    show (dats m ρ 0 c).owed (Fin.succ t0_0) = 0 from rfl]
  iintro ⟨⟨⟨⟨%K, HR, Hb, Hp⟩, Hd, Hlev⟩, Hs⟩, ⟨%W, -, HO⟩, ⟨%d0, %g0, %hg0, Hx⟩, ⟨%d1, %g1, -, Ho⟩⟩
  have hx : g0 = ops m c := hg0.trans (before_operand m ρ c d0)
  subst hx
  ihave Hw := (wp_steps (ops m) K c) $$ [HR Hb Hp Hd Hlev Hs HO Hx Ho]
  · isplitl [HR]; · iexact HR
    isplitl [Hlev]; · iexact Hlev
    isplitl [Hb]; · iexact Hb
    isplitl [Hp]; · iexact Hp
    isplitl [Hd]; · iexact Hd
    isplitl [HO]
    · unfold owing; iexists W; iexact HO
    isplitl [Hx]
    · unfold xPts; iexact Hx
    isplitl [Hs]; · iexact Hs
    iexists g1; unfold oPts; iexact Ho
  iapply (wp_wand frame (wpE (defs₀ (F := F)) 𝒱₀ (c : Thread nD τ) none) Set.univ) $$ Hw
  unfold owing xPts oPts
  iintro %_ ⟨⟨%W', HO⟩, Hx, Ho, Hs, Hc⟩
  isplitl [Hs Hc]
  · isplitl [Hs] <;> iassumption
  isplitl [HO]
  · iexists W'
    isplitr; · ipureintro; exact fun _ _ => Or.inl trivial
    iexact HO
  isplitl [Hx]
  · iexists (ops m c); isplitr; · (ipureintro; rfl)
    iexact Hx
  iexists (out (ops m) c); isplitr; · (ipureintro; rfl)
  iexact Ho

/-! ## The launch -/

theorem share_eq (c : Dev nD) (w : Fin cfg0.W) : (dats m ρ 0 c).share w = fullShare := by
  unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ ready (ops m) c)
      ⊢ |={Set.univ}=> iprop(start m c ∗ emp) := by
  iintro ⟨-, Hlev, Hcr, -, HG⟩
  ihave Hc := (credit_dues c) $$ Hcr
  imodintro
  unfold start
  isplitl
  · isplitl [HG]; · iexact HG
    isplitl [Hc]; · iexact Hc
    iexact Hlev
  · iempintro

theorem entry_intro (c : Dev nD) :
    iprop(start m c ∗ Pipeline.prefHeld Pipeline.Prefetch.none c (fun _ => fullShare.right) (fun k => k.elim0)
        ∗ Pipeline.scopedRest cfg0.spec c)
      ⊢ (dats m ρ 0 c).Φ 0 := by
  rw [show (dats m ρ 0 c).Φ 0 = entry m c from rfl, scopedRest0_eq]
  unfold entry
  iintro ⟨Hs, -, ⟨%f, Hr⟩⟩
  isplitl [Hs]; · iexact Hs
  iexists f; unfold sPts; iexact Hr

theorem exit_elim (c : Dev nD) : (dats m ρ 0 c).Φ (Fin.last cfg0.N)
    ⊢ iprop(unscopedSems0 c ∗ Pipeline.ownSems0 osem c ∗ Pipeline.scopedRest cfg0.spec c) := by
  rw [show (dats m ρ 0 c).Φ (Fin.last cfg0.N) = exit c from rfl, scopedRest0_eq]
  unfold exit
  rw [sems_eq]
  iintro ⟨⟨%f, Hr⟩, Hu, Ho⟩
  isplitl [Hu]; · iexact Hu
  isplitl [Ho]; · iexact Ho
  iexists f; unfold sPts; iexact Hr

/-- The staging buffers' own semaphores come before all that is owed. -/
theorem waits (c : Dev nD) : (levAts L lv : sProp 𝕄) ⊢ Pipeline.cellsWaits cfgs (dats m ρ) () 0 c :=
  Pipeline.cellsWaits_intro cfgs (dats m ρ) () 0 c fun w s t =>
    mayWait_above c _ (n := 0) (by
      rcases t with ⟨_ | _, ht⟩
      · exact above_owed0 c
      · exact above_zero 0) (Nat.le_of_eq (by fin_cases w <;> fin_cases s <;> rfl))

/-! ## The run -/

/-- What a window's array holds at the end. -/
def final (c : Dev nD) (w : Fin cfg0.W) : Buf (Elt F) ((cfg0.win w).arr.view.loc (c : Thread nD τ)) :=
  (dats m ρ 0 c).arrAt w cfg0.N

theorem run_windows : θ_run defs (onTc (τ := τ) (main (F := F))) (s₀ m ρ) (fun r =>
    (∀ (c : Dev nD) (w : Fin cfg0.W), r.2.mem ((cfg0.win w).arr.view.loc (c : Thread nD τ)) = final m ρ c w)
      ∧ r.2.sem = fun _ => 0) :=
  Pipeline.θ_run_region_owing_glob_pf (fun p => (cfgs p).toPCfg) (fun p => (cfgs p).toPCfg_adm) (dats m ρ) () cellOf_inj
    (0 : Fin 1) winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0)
    (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := dealt (ops m)) (G' := ready (ops m)) (u₀ := u₀)
    (hu₀ := by
      unfold u₀
      iintro Hu
      ihave H := (ownU_pair _ _) $$ Hu
      icases H with ⟨HP, HX⟩
      imod (fund_cells (ops m)) $$ HX with HG
      imodintro
      isplitl [HP] <;> iassumption)
    (hglob := set_up (ops m))
    (hA := fun _ _ => rfl) (hpf := fun _ k => k.elim0)
    (X := start m) (Y := fun c => unscopedSems0 c) (Z := fun _ => iprop(emp))
    (hX := start_intro m ρ) (hin := entry_intro m ρ) (hout := exit_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_operand (c : Dev nD) : final m ρ c (0 : Fin 2) = m ((c : Thread nD τ).loc main_arg0) :=
  (dats (F := F) m ρ 0 c).arrAt_in (0 : Fin 2) rfl _

theorem final_result (c : Dev nD) : final m ρ c (1 : Fin 2) = out (ops m) c := by
  unfold final
  refine (dats (F := F) m ρ 0 c).arrAt_eq_of_after_last (1 : Fin 2) t0_0 (by decide +kernel) _ fun j => ?_
  blk_simp
  rfl

/-- Every execution of the program ends with each device's result holding `out` of the operands, the operands unchanged,
    and every semaphore at zero. -/
theorem run_main : θ_run defs (onTc (τ := τ) (main (F := F))) ⟨m, fun _ => 0, ρ⟩ (fun r =>
    (∀ c : Dev nD, r.2.mem ((c : Thread nD τ).loc main_v1) = out (ops m) c
      ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (final_result m ρ c),
    (h.1 c (0 : Fin 2)).trans (final_operand m ρ c)⟩, h.2⟩) (run_windows m ρ)

/-- Of that, what does not say what is computed. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0))
      ∧ r.2.sem = fun _ => 0) :=
  (θ_run defs _ _).mono (fun _ h => ⟨fun c => (h.1 c).2, h.2⟩) (run_main m ρ)

end Cert.KernelIdeal.Proof

end
-- ==== Proof.Value.lean ====
/- The equation: when the operands are the two row blocks of one array, each held by the devices of one column of the mesh,
   every device's result is its column block of that array. -/
module

public import proofs.«01_k».proof.Proof.Contents

@[expose] public section

noncomputable section

namespace Cert.KernelIdeal.Proof

open Idealize.ShloMosaic
open Cert.KernelIdeal Cert.KernelIdeal.Gen

variable {F : FTy → Type}

/-- A device's position along the mesh's second axis. -/
theorem meshLin_y (n : ℕ) : Layout.meshLin [2, 2] n [1] = n % 2 := by
  show n / 1 % 2 * 1 + 0 = n % 2
  omega

theorem out_blocks (X : Operands F) (whole : (⟨2, ![4096, 1024]⟩ : Shape).Idx → Elt F .bf16)
    (hX : ∀ c : Dev nD, X c = Layout.blockN ⟨2, ![2048, 1024]⟩ ⟨2, ![4096, 1024]⟩ (Layout.meshBlock [2, 2] ![[1], []] c) whole)
    (d : Dev nD) :
    out X d = Layout.blockN ⟨2, ![4096, 512]⟩ ⟨2, ![4096, 1024]⟩ (Layout.meshBlock [2, 2] ![[], [1]] d) whole := by
  funext i
  have hr := row_lt i
  have hs : (src d i).val % 2 = (i 0).val / 2048 := by
    unfold src
    split
    · omega
    · show (2 * ((i 0).val % 2048 / 1024) + (i 0).val / 2048) % 2 = _
      omega
  unfold out
  rw [hX, Layout.blockN_apply, Layout.blockN_apply]
  refine congrArg whole (funext fun b => Fin.ext ?_)
  rw [Layout.TilesN.idx_val, Layout.TilesN.idx_val]
  match b with
  | 0 =>
    show Layout.meshLin [2, 2] (src d i).val [1] * 2048 + (i 0).val % 2048 = 0 * 4096 + (i 0).val
    rw [meshLin_y, hs]
    omega
  | 1 =>
    show 0 * 1024 + (512 * (d.val % 2) + (i 1).val) = Layout.meshLin [2, 2] d.val [1] * 512 + (i 1).val
    rw [meshLin_y]
    omega

end Cert.KernelIdeal.Proof

end
-- ==== Proof.Reference.lean ====
/- The reference computes nothing: its result is its argument, which stays as it was. -/
module

public import proofs.«01_k».proof.Proof.Gen.ReferenceIdeal
public import Idealize.ShloMosaic.Lib.StableHlo.Run
public import Idealize.ShloMosaic.Lib.Quiescent

@[expose] public section

noncomputable section

namespace Cert.ReferenceIdeal.Proof

open Idealize.ShloMosaic Idealize.ShloMosaic.TcCoe Idealize.SL.Sem
open Idealize.ShloMosaic.StableHlo
open Cert.ReferenceIdeal Cert.ReferenceIdeal.Gen

variable {F : FTy → Type} [FloatOps F]

theorem no_scoped_refs : (Finset.univ.filter fun b : Ref sig .tc => b.isScoped) = ∅ := by decide
theorem no_scoped_sems : (Finset.univ.filter fun sm : SemLoc sig => sm.isScoped .tc) = ∅ := by decide

/-- Every execution of the reference ends with the argument unchanged and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun r h => ⟨fun c => h c main_arg0, sem_eq_zero_of_no_sems rfl r.2⟩)
    (run_seq no_scoped_refs no_scoped_sems defs main (fun _ => []) (fun _ => rfl) (fun _ => trivial) m ρ)

end Cert.ReferenceIdeal.Proof

end
-- ==== Proof.lean ====
/- The claim: the frames of the three programs, what idealization preserves, and the equation between the kernel and the
   reference, each read off one run theorem per program. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Run
public import proofs.«01_k».proof.Proof.Value
public import proofs.«01_k».proof.Proof.Reference

@[expose] public section

set_option maxRecDepth 16384

noncomputable section

namespace Cert.Proof

open Idealize.ShloMosaic Idealize.SL.Sem

variable {F : FTy → Type} [FloatOps F]

/-- The two kernel programs have the same body at each label. -/
theorem bodies : (Cert.Kernel.defs₀ (F := F) : Defs Cert.Kernel.nD Cert.Kernel.τ Cert.Kernel.sig (Elt F) Cert.Kernel.Λ₀)
    = Cert.KernelIdeal.defs₀ (F := F) := by
  refine congrArg Defs.onTc (funext fun ℓ => funext fun a => ?_)
  match ℓ, a with
  | 0, (t, s) => rfl

/-- So their whole tables are equal, pipelines included. -/
theorem tables : (Cert.Kernel.defs (F := F) : Defs Cert.Kernel.nD Cert.Kernel.τ Cert.Kernel.sig (Elt F) _)
    = Cert.KernelIdeal.defs (F := F) :=
  congrArg (Pipeline.defs Cert.Kernel.pcfgs) bodies

/-- The kernel as compiled ends with its operands unchanged and its semaphores at zero. -/
theorem frame_kernel : Cert.quiescent_Kernel := fun m ρ _ => by
  rw [tables]
  exact Cert.KernelIdeal.Proof.run_frame (F := Bits) m ρ

/-- The kernel over exact numbers does too, -/
theorem frame_ideal : Cert.quiescent_KernelIdeal := fun m ρ _ =>
  Cert.KernelIdeal.Proof.run_frame (F := Ideal) m ρ

/-- and the reference. -/
theorem frame_reference : Cert.quiescent_ReferenceIdeal := fun m ρ _ =>
  Cert.ReferenceIdeal.Proof.run_main (F := Ideal) m ρ

/-- The devices' results are the column blocks of the reference's result. -/
theorem equation : Cert.algebraic_KernelIdeal_ReferenceIdeal := fun m ρ m' ρ' _ hin =>
  ⟨_, (θ_run Cert.KernelIdeal.defs _ _).mono
      (fun _ h c => ⟨((h.1 c).1).trans (Cert.KernelIdeal.Proof.out_blocks (Cert.KernelIdeal.Proof.ops m) _ hin c), (h.1 c).2⟩)
      (Cert.KernelIdeal.Proof.run_main (F := Ideal) m ρ),
    (θ_run Cert.ReferenceIdeal.defs _ _).mono (fun _ h => ⟨h.1 0, h.1 0⟩)
      (Cert.ReferenceIdeal.Proof.run_main (F := Ideal) m' ρ')⟩

theorem claim : Cert.Claim := ⟨Cert.Kernel.Gen.facts, Cert.KernelIdeal.Gen.facts, Cert.ReferenceIdeal.Gen.facts,
  frame_kernel, frame_ideal, frame_reference, trivial, equation⟩

end Cert.Proof

end
